-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S256x512 : Shape := ⟨2, ![256, 512]⟩
abbrev S4x256x512 : Shape := ⟨3, ![4, 256, 512]⟩
abbrev S3x4 : Shape := ⟨2, ![3, 4]⟩
abbrev S256x256 : Shape := ⟨2, ![256, 256]⟩
abbrev S1x256x512 : Shape := ⟨3, ![1, 256, 512]⟩
abbrev S_ : Shape := ⟨0, ![]⟩
abbrev S1x1 : Shape := ⟨2, ![1, 1]⟩
abbrev S1x64x512 : Shape := ⟨3, ![1, 64, 512]⟩
abbrev S64x512 : Shape := ⟨2, ![64, 512]⟩

abbrev nBuf : Space → Nat
  | .hbm => 3
  | .vmem => 9
  | .smem => 0
  | _ => 0

abbrev bufTy : (tb : Table) → Fin (tcTables nBuf tb) → BufTy
  | .hbm, ⟨0, _⟩ => ⟨S1024x256, .bf16⟩
  | .hbm, ⟨1, _⟩ => ⟨S256x1024, .bf16⟩
  | .hbm, ⟨2, _⟩ => ⟨S256x1024, .bf16⟩
  | .local _ .vmem, ⟨0, _⟩ => ⟨S1024x256, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S4x256x512, .bf16⟩
  | .local _ .vmem, ⟨8, _⟩ => ⟨S4x256x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v8 : BitVec 32 := Scalar.addi v2 c4_i32_5
  let c1_i32_6 : BitVec 32 := 1#32
  let v9 : BitVec 32 := Scalar.subi v8 c1_i32_6
  let c4_i32_7 : BitVec 32 := 4#32
  let v10 : BitVec 32 := Scalar.remsi v9 c4_i32_7
  let c256_i32 : BitVec 32 := 256#32
  let v13 : BitVec 32 := Scalar.muli v10 c256_i32
  let v14 : Index := Scalar.indexCast v13
  let c0 : Index := 0#32
  ![v14.toNat, 0]
def k0_off2 (d0 : Dev nD) (c1_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c1_i32_8
  let c4_i32_9 : BitVec 32 := 4#32
  let v12 : BitVec 32 := Scalar.remsi v11 c4_i32_9
  let c256_i32_15 : BitVec 32 := 256#32
  let v24 : BitVec 32 := Scalar.muli v12 c256_i32_15
  let v25 : Index := Scalar.indexCast v24
  let c0_16 : Index := 0#32
  ![v25.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_23 : BitVec 32 := 1#32
  let v36 : BitVec 32 := Scalar.muli v5 c1_i32_23
  let v37 : BitVec 32 := Scalar.addi c0_i32 v36
  v37.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_25 : BitVec 32 := 1#32
  let v38 : BitVec 32 := Scalar.muli v7 c1_i32_25
  let v39 : BitVec 32 := Scalar.addi c0_i32_26 v38
  v39.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_33 : BitVec 32 := 1#32
  let v40 : BitVec 32 := Scalar.muli v7 c1_i32_33
  let v41 : BitVec 32 := Scalar.addi c0_i32_34 v40
  v41.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_45 : BitVec 32 := 1#32
  let v50 : BitVec 32 := Scalar.muli v5 c1_i32_45
  let v51 : BitVec 32 := Scalar.addi c0_i32_46 v50
  v51.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_57 : BitVec 32 := 1#32
  let v60 : BitVec 32 := Scalar.muli v7 c1_i32_57
  let v61 : BitVec 32 := Scalar.addi c0_i32_58 v60
  v61.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_68 : BitVec 32 := 1#32
  let v70 : BitVec 32 := Scalar.muli v5 c1_i32_68
  let v71 : BitVec 32 := Scalar.addi c0_i32_69 v70
  v71.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_80 : BitVec 32 := 1#32
  let v80 : BitVec 32 := Scalar.muli v7 c1_i32_80
  let v81 : BitVec 32 := Scalar.addi c0_i32_81 v80
  v81.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_91 : BitVec 32 := 1#32
  let v90 : BitVec 32 := Scalar.muli v5 c1_i32_91
  let v91 : BitVec 32 := Scalar.addi c0_i32_92 v90
  v91.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_102 : BitVec 32 := 1#32
  let v100 : BitVec 32 := Scalar.muli v7 c1_i32_102
  let v101 : BitVec 32 := Scalar.addi c0_i32_103 v100
  v101.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_113 : BitVec 32 := 1#32
  let v110 : BitVec 32 := Scalar.muli v5 c1_i32_113
  let v111 : BitVec 32 := Scalar.addi c0_i32_114 v110
  v111.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_147 : BitVec 32 := 256#32
  let v160 : BitVec 32 := Scalar.muli v2 c256_i32_147
  let v161 : Index := Scalar.indexCast v160
  let c0_148 : Index := 0#32
  ![v161.toNat, 0]
def k0_dev11 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_181 : BitVec 32 := 1#32
  let v186 : BitVec 32 := Scalar.muli v7 c1_i32_181
  let v187 : BitVec 32 := Scalar.addi c0_i32_182 v186
  v187.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_211 : BitVec 32 := 1#32
  let v210 : BitVec 32 := Scalar.muli v5 c1_i32_211
  let v211 : BitVec 32 := Scalar.addi c0_i32_212 v210
  v211.toNat
def k0_dev13 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_244 : BitVec 32 := 1#32
  let v236 : BitVec 32 := Scalar.muli v7 c1_i32_244
  let v237 : BitVec 32 := Scalar.addi c0_i32_245 v236
  v237.toNat
def k0_dev14 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_274 : BitVec 32 := 1#32
  let v260 : BitVec 32 := Scalar.muli v5 c1_i32_274
  let v261 : BitVec 32 := Scalar.addi c0_i32_275 v260
  v261.toNat
def k0_dev15 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_307 : BitVec 32 := 1#32
  let v286 : BitVec 32 := Scalar.muli v7 c1_i32_307
  let v287 : BitVec 32 := Scalar.addi c0_i32_308 v286
  v287.toNat
def k0_dev16 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_337 : BitVec 32 := 1#32
  let v310 : BitVec 32 := Scalar.muli v5 c1_i32_337
  let v311 : BitVec 32 := Scalar.addi c0_i32_338 v310
  v311.toNat
def k0_dev17 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_370 : BitVec 32 := 1#32
  let v336 : BitVec 32 := Scalar.muli v7 c1_i32_370
  let v337 : BitVec 32 := Scalar.addi c0_i32_371 v336
  v337.toNat
def k0_dev18 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_400 : BitVec 32 := 1#32
  let v360 : BitVec 32 := Scalar.muli v5 c1_i32_400
  let v361 : BitVec 32 := Scalar.addi c0_i32_401 v360
  v361.toNat
def k0_dev19 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_433 : BitVec 32 := 1#32
  let v386 : BitVec 32 := Scalar.muli v7 c1_i32_433
  let v387 : BitVec 32 := Scalar.addi c0_i32_434 v386
  v387.toNat
def k0_dev20 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_463 : BitVec 32 := 1#32
  let v410 : BitVec 32 := Scalar.muli v5 c1_i32_463
  let v411 : BitVec 32 := Scalar.addi c0_i32_464 v410
  v411.toNat
def k0_dev21 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_497 : BitVec 32 := 1#32
  let v436 : BitVec 32 := Scalar.muli v7 c1_i32_497
  let v437 : BitVec 32 := Scalar.addi c0_i32_498 v436
  v437.toNat
def k0_dev22 (d0 : Dev nD) : Nat :=
  let c0_i32_528 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_527 : BitVec 32 := 1#32
  let v460 : BitVec 32 := Scalar.muli v5 c1_i32_527
  let v461 : BitVec 32 := Scalar.addi c0_i32_528 v460
  v461.toNat
def k0_dev23 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_561 : BitVec 32 := 1#32
  let v486 : BitVec 32 := Scalar.muli v7 c1_i32_561
  let v487 : BitVec 32 := Scalar.addi c0_i32_562 v486
  v487.toNat
def k0_dev24 (d0 : Dev nD) : Nat :=
  let c0_i32_592 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_591 : BitVec 32 := 1#32
  let v510 : BitVec 32 := Scalar.muli v5 c1_i32_591
  let v511 : BitVec 32 := Scalar.addi c0_i32_592 v510
  v511.toNat
def k0_dev25 (d0 : Dev nD) : Nat :=
  let c0_i32_626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_625 : BitVec 32 := 1#32
  let v536 : BitVec 32 := Scalar.muli v7 c1_i32_625
  let v537 : BitVec 32 := Scalar.addi c0_i32_626 v536
  v537.toNat
def k0_dev26 (d0 : Dev nD) : Nat :=
  let c0_i32_656 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_655 : BitVec 32 := 1#32
  let v560 : BitVec 32 := Scalar.muli v5 c1_i32_655
  let v561 : BitVec 32 := Scalar.addi c0_i32_656 v560
  v561.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.lean ====
/-
# `Ring`: the two rings, their cells and what each cell hands over

Four devices stand in a ring. Two streams run round it at once: the RIGHT stream (`true`) sends to the next device,
the LEFT stream (`false`) to the one before. Each stream moves in four segments of 64 rows over three hops. A key
`(d, h, s)` names the transfer of stream `d`, hop `h`, segment `s`; every device issues all 24 of them.

* `barCell c` — the runtime's barrier semaphore. The next device pays one unit and hands over its landing pieces of
  the right stream; the device before pays one unit and hands over its landing pieces of the left stream.
* `sendCell c k` — paid by the engine when transfer `k` of device `c` has left; hands back the piece it was read from.
* `recvCell c k` — paid by the engine when the transfer `k` of `c`'s neighbour has arrived; hands over the landing
  piece, holding what the neighbour sent.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the rings' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The rings -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Where stream `d` of device `c` goes. -/
def tgt (d : Bool) (c : Dev nD) : Dev nD := if d then nxt c else prv c
/-- Where stream `d` of device `c` comes from. -/
def src (d : Bool) (c : Dev nD) : Dev nD := if d then prv c else nxt c

theorem src_tgt (d : Bool) (c : Dev nD) : src d (tgt d c) = c := by revert d c; decide
theorem tgt_src (d : Bool) (c : Dev nD) : tgt d (src d c) = c := by revert d c; decide
theorem tgt_not (d : Bool) (c : Dev nD) : tgt (!d) c = src d c := by revert d c; decide

/-- Stream `d`'s turn of the ring. -/
def ring (d : Bool) : Dev nD ≃ Dev nD := ⟨tgt d, src d, src_tgt d, tgt_src d⟩

/-! ## Transfers -/

/-- Stream, hop, segment. -/
abbrev Key : Type := Bool × Fin 3 × Fin 4

/-- The transfer's place among the four semaphore arrays' 48 places; its receive place is 12 further on. -/
def sendIx (k : Key) : Fin 48 := ⟨(if k.1 then 0 else 24) + 4 * k.2.1.val + k.2.2.val, by
  obtain ⟨d, h, s⟩ := k; have := h.isLt; have := s.isLt; dsimp only; split <;> omega⟩
def recvIx (k : Key) : Fin 48 := ⟨(if k.1 then 0 else 24) + 12 + 4 * k.2.1.val + k.2.2.val, by
  obtain ⟨d, h, s⟩ := k; have := h.isLt; have := s.isLt; dsimp only; split <;> omega⟩

/-- Whether a place is a receive place, and whose transfer's. -/
def isRecv (j : Fin 48) : Bool := decide ((j.val / 12) % 2 = 1)
def keyOf (j : Fin 48) : Key := (decide (j.val < 24), ⟨(j.val % 12) / 4, by omega⟩, ⟨j.val % 4, by omega⟩)

theorem isRecv_send (k : Key) : isRecv (sendIx k) = false := by revert k; decide
theorem isRecv_recv (k : Key) : isRecv (recvIx k) = true := by revert k; decide
theorem keyOf_send (k : Key) : keyOf (sendIx k) = k := by revert k; decide
theorem keyOf_recv (k : Key) : keyOf (recvIx k) = k := by revert k; decide

/-- The DMA semaphore of a place: the first three are the staging's. -/
def dsem (j : Fin 48) : DmaSem sig := ⟨3 + j.val, by have := j.isLt; show 3 + j.val < 51; omega⟩

/-! ## Memrefs -/

abbrev xM : Memref sig .tc .vmem S1024x256 .bf16 := Memref.whole cc0_stg0_0
abbrev wM : Memref sig .tc .vmem S256x1024 .bf16 := Memref.whole cc0_stg1_0
abbrev oM : Memref sig .tc .vmem S256x1024 .bf16 := Memref.whole cc0_stg2_0
abbrev mM : Memref sig .tc .vmem S256x1024 .bf16 := Memref.whole cc0_scratch0
abbrev rM : Memref sig .tc .vmem S256x512 .bf16 := Memref.whole cc0_scratch1
abbrev lM : Memref sig .tc .vmem S256x512 .bf16 := Memref.whole cc0_scratch2
abbrev fM : Memref sig .tc .vmem S256x1024 .f32 := Memref.whole cc0_scratch3
/-- Stream `d`'s four slots. -/
abbrev commM : Bool → Memref sig .tc .vmem S4x256x512 .bf16
  | true => Memref.whole cc0_scratch4
  | false => Memref.whole cc0_scratch5

theorem slot_inb (h : Fin 4) (s : Fin 4) : ∀ a, (![h.val, 64 * s.val, 0] : Fin 3 → ℕ) a + S1x64x512.size a ≤ S4x256x512.size a := by
  have h1 := h.isLt; have h2 := s.isLt
  intro a; fin_cases a
  · show h.val + 1 ≤ 4; omega
  · show 64 * s.val + 64 ≤ 256; omega
  · show 0 + 512 ≤ 512; omega

/-- Segment `s` of slot `h`. -/
abbrev slotR (h s : Fin 4) : Rect S4x256x512 := Rect.unit (s := S4x256x512) ![h.val, 64 * s.val, 0] S1x64x512.size (slot_inb h s)

/-- Segment `s` of stream `d`'s slot `h`, -/
abbrev pc (d : Bool) (h s : Fin 4) : Memref sig .tc .vmem S1x64x512 .bf16 := (commM d).slice (slotR h s) (fun _ => rfl)
/-- and as the transfers name it. -/
abbrev pq (d : Bool) (h s : Fin 4) : Memref sig .tc .vmem S64x512 .bf16 := (pc d h s).squeeze S64x512 squeezes_S1x64x512_S64x512

/-! ## Cells -/

/-- The runtime's barrier semaphore of the kernel's collective id. -/
abbrev barS : Sem sig := (SemArray.scalar (sig.barrier 0 rfl) : Sems sig S_).sem

abbrev barCell (c : Dev nD) : GSem nD τ sig := ((c : Thread nD τ), .reg barS)
abbrev dCell (c : Dev nD) (j : Fin 48) : GSem nD τ sig := ((c : Thread nD τ), .dma (dsem j))
abbrev sendCell (c : Dev nD) (k : Key) : GSem nD τ sig := dCell c (sendIx k)
abbrev recvCell (c : Dev nD) (k : Key) : GSem nD τ sig := dCell c (recvIx k)

/-- The kernel's own (scoped) semaphores: the 48 DMA semaphores. -/
abbrev osem : Fin 48 → SemLoc sig := fun j => .dma (dsem j)
/-- With the runtime's barrier semaphore: all of a device's cells in this proof. -/
abbrev csem : Option (Fin 48) → SemLoc sig
  | none => .reg barS
  | some j => .dma (dsem j)
abbrev kcell (ck : Dev nD × Option (Fin 48)) : GSem nD τ sig := ((ck.1 : Thread nD τ), csem ck.2)

/-- A transfer's credit: every piece has the same shape. -/
abbrev N : ℕ := (pq true 0 0).view.dmaCredit
theorem N_pos : 0 < N := View.dmaCredit_pos _ (by decide)
theorem credit_pq (d : Bool) (h s : Fin 4) : (pq d h s).view.dmaCredit = N := by cases d <;> rfl

/-! ## What the arrays hold -/

/-- Device `c`'s columns of the left operand, as staged, -/
def xstg (c : Dev nD) : (cc0_stg0_0 : Ref sig .tc).ty.Contents (Elt F) :=
  (win0_0.blk (0 : Fin 1)).view.read (Elt F) ((s₀ m ρ).mem ((c : Thread nD τ).loc main_arg0))
/-- and its rows of the right operand. -/
def wstg (c : Dev nD) : (cc0_stg1_0 : Ref sig .tc).ty.Contents (Elt F) :=
  (win0_1.blk (0 : Fin 1)).view.read (Elt F) ((s₀ m ρ).mem ((c : Thread nD τ).loc main_arg1))

abbrev wLo : Rect S256x1024 := Rect.unit (s := S256x1024) ![0, 0] S256x512.size inb_S256x1024_S256x512_0_0
abbrev wHi : Rect S256x1024 := Rect.unit (s := S256x1024) ![0, 512] S256x512.size inb_S256x1024_S256x512_0_512
abbrev wAll : Rect S256x1024 := Rect.unit (s := S256x1024) ![0, 0] S256x1024.size inb_S256x1024_S256x1024_0_0
abbrev xPrv (c : Dev nD) : Rect S1024x256 := Rect.unit (s := S1024x256) (k0_off1 c) S256x256.size (k0_off1_inb c)
abbrev xNxt (c : Dev nD) : Rect S1024x256 := Rect.unit (s := S1024x256) (k0_off2 c 1#32) S256x256.size (k0_off2_inb c 0)
abbrev xOpp (c : Dev nD) : Rect S1024x256 := Rect.unit (s := S1024x256) (k0_off2 c 2#32) S256x256.size (k0_off2_inb c 1)
abbrev xOwn (c : Dev nD) : Rect S1024x256 := Rect.unit (s := S1024x256) (k0_off3 c) S256x256.size (k0_off3_inb c)

/-- What the body stores in slot 0 of stream `d`. -/
def p0 (d : Bool) (c : Dev nD) : FVec F S1x256x512 .bf16 :=
  if d then k0_pay1 ((xM.access (xPrv c)).read (Elt F) (xstg m ρ c)) ((wM.access wLo).read (Elt F) (wstg m ρ c))
  else k0_pay3 (k0_pay2 ((xM.access (xNxt c)).read (Elt F) (xstg m ρ c)) ((wM.access wHi).read (Elt F) (wstg m ρ c)))
/-- The partial product of the opposite device's rows, -/
def pm (c : Dev nD) : FVec F S256x1024 .bf16 :=
  k0_pay4 ((xM.access (xOpp c)).read (Elt F) (xstg m ρ c)) ((wM.access wAll).read (Elt F) (wstg m ρ c))
/-- of the next device's rows, first half of the columns, -/
def pr (c : Dev nD) : FVec F S256x512 .bf16 :=
  k0_pay6 (k0_pay5 ((xM.access (xNxt c)).read (Elt F) (xstg m ρ c))) ((wM.access wLo).read (Elt F) (wstg m ρ c))
/-- of the rows of the device before, second half, -/
def pl (c : Dev nD) : FVec F S256x512 .bf16 :=
  k0_pay7 ((xM.access (xPrv c)).read (Elt F) (xstg m ρ c)) ((wM.access wHi).read (Elt F) (wstg m ρ c))
/-- and of its own rows, unrounded. -/
def pf (c : Dev nD) : FVec F S256x1024 .f32 :=
  k0_pay8 ((xM.access (xOwn c)).read (Elt F) (xstg m ρ c)) ((wM.access wAll).read (Elt F) (wstg m ρ c))

theorem half_inb (d : Bool) (s : Fin 4) : ∀ a, (![64 * s.val, if d then 0 else 512] : Fin 2 → ℕ) a + S64x512.size a ≤ S256x1024.size a := by
  have h2 := s.isLt
  intro a; fin_cases a
  · show 64 * s.val + 64 ≤ 256; omega
  · show (if d then 0 else 512) + 512 ≤ 1024; split <;> omega
theorem seg_inb (s : Fin 4) : ∀ a, (![64 * s.val, 0] : Fin 2 → ℕ) a + S64x512.size a ≤ S256x512.size a := by
  have h2 := s.isLt
  intro a; fin_cases a
  · show 64 * s.val + 64 ≤ 256; omega
  · show 0 + 512 ≤ 512; omega
/-- Segment `s` of stream `d`'s half of the columns, -/
abbrev halfR (d : Bool) (s : Fin 4) : Rect S256x1024 := Rect.unit (s := S256x1024) ![64 * s.val, if d then 0 else 512] S64x512.size (half_inb d s)
/-- and segment `s` of an array of one half. -/
abbrev segR (s : Fin 4) : Rect S256x512 := Rect.unit (s := S256x512) ![64 * s.val, 0] S64x512.size (seg_inb s)

/-- What device `c` adds to segment `s` of stream `d` before hop `1` (`h = 0`) and before hop `2` (`h = 1`). -/
def addP (d : Bool) (h : Fin 2) (c : Dev nD) (s : Fin 4) : Vec F S64x512 .bf16 :=
  match h with
  | 0 => (mM.access (halfR d s)).read (Elt F) (pm m ρ c)
  | 1 => match d with
    | true => (rM.access (segR s)).read (Elt F) (pr m ρ c)
    | false => (lM.access (segR s)).read (Elt F) (pl m ρ c)

theorem seg1_inb (s : Fin 4) : ∀ a, (![0, 64 * s.val, 0] : Fin 3 → ℕ) a + S1x64x512.size a ≤ S1x256x512.size a := by
  have h2 := s.isLt
  intro a; fin_cases a
  · show 0 + 1 ≤ 1; omega
  · show 64 * s.val + 64 ≤ 256; omega
  · show 0 + 512 ≤ 512; omega
/-- Segment `s` of one slot, -/
abbrev seg1R (s : Fin 4) : Rect S1x256x512 := Rect.unit (s := S1x256x512) ![0, 64 * s.val, 0] S1x64x512.size (seg1_inb s)
/-- and what it holds of the slot's contents. -/
def seg0 (p : FVec F S1x256x512 .bf16) (s : Fin 4) : Vec F S1x64x512 .bf16 := fun j => p ((seg1R s).emb j)

/-- What transfer `(d, h, s)` of device `c` carries: its own partial product at the first hop, afterwards what arrived
    with the hop before plus the device's partial product. -/
def val (d : Bool) : (h : ℕ) → (c : Dev nD) → (s : Fin 4) → Vec F S1x64x512 .bf16
  | 0, c, s => seg0 (p0 m ρ d c) s
  | h + 1, c, s => k0_pay9 (addP m ρ d (if h = 0 then 0 else 1) c s) (val d h (src d c) s)

/-- Segment `s` of stream `d`'s half of device `c`'s result: what the last hop brought plus its own partial product. -/
def outP (d : Bool) (c : Dev nD) (s : Fin 4) : Vec F S64x512 .bf16 :=
  k0_pay25 (val m ρ d 2 (src d c) s) ((fM.access (halfR d s)).read (Elt F) (pf m ρ c))

/-! ## The schedule -/

/-- Landing pieces of stream `d` on device `c'`, holding anything. -/
def barPay (d : Bool) (c' : Dev nD) : sProp 𝕄 :=
  bigSep Finset.univ fun hs : Fin 3 × Fin 4 => iprop(∃ X, owns (c' : Thread nD τ) (pc d hs.1.succ hs.2) fullShare X)
def sendPay (c : Dev nD) (k : Key) : sProp 𝕄 := owns (c : Thread nD τ) (pc k.1 k.2.1.castSucc k.2.2) fullShare (val m ρ k.1 k.2.1.val c k.2.2)
def recvPay (c : Dev nD) (k : Key) : sProp 𝕄 := owns (c : Thread nD τ) (pc k.1 k.2.1.succ k.2.2) fullShare (val m ρ k.1 k.2.1.val (src k.1 c) k.2.2)
def xferPay (c : Dev nD) (r : Bool) (k : Key) : sProp 𝕄 := if r then recvPay m ρ c k else sendPay m ρ c k

omit [FloatOps F] in
instance barPay_storable (d : Bool) (c : Dev nD) : BI.Storable (upEmb : UEmb _ 𝕄) (barPay (F := F) d c) := by unfold barPay; infer_instance
instance sendPay_storable (c : Dev nD) (k : Key) : BI.Storable (upEmb : UEmb _ 𝕄) (sendPay (F := F) m ρ c k) := by unfold sendPay; infer_instance
instance recvPay_storable (c : Dev nD) (k : Key) : BI.Storable (upEmb : UEmb _ 𝕄) (recvPay (F := F) m ρ c k) := by unfold recvPay; infer_instance
instance xferPay_storable (c : Dev nD) (r : Bool) (k : Key) : BI.Storable (upEmb : UEmb _ 𝕄) (xferPay (F := F) m ρ c r k) := by
  unfold xferPay; split <;> infer_instance

/-- The place of a DMA semaphore, if it is one of the 48. -/
def place (q : DmaSem sig) : Option (Fin 48) := if h : 3 ≤ q.val then some ⟨q.val - 3, by have := q.isLt; have h51 : q.val < 51 := this; omega⟩ else none
theorem place_dsem (j : Fin 48) : place (dsem j) = some j := by revert j; decide

/-- One round, round 0: a barrier cell has the two duties of one unit each — `true` paid by the next device, `false` by the
    device before; each of the 48 DMA cells the duty `false` of a piece's credit. -/
def ringRd : Rounds.Schedule (GSem nD τ sig) Bool 𝕄 where
  duties g r := if r = 0 ∧ g.1.2 = .tc then
      (match g.2 with
        | .reg q => if q = barS then Finset.univ else ∅
        | .dma q => if (place q).isSome then {false} else ∅)
    else ∅
  unitless _ := False
  amount g _ _ := match g.2 with
    | .reg _ => 1
    | .dma _ => N
  payload g _ b := match g.2 with
    | .reg _ => barPay b (tgt b g.1.1)
    | .dma q => match place q with
      | some j => xferPay m ρ g.1.1 (isRecv j) (keyOf j)
      | none => iprop(emp)
  amount_pos g _ _ _ := by
    rcases g with ⟨_, _ | _⟩
    · exact Nat.one_pos
    · exact N_pos

instance ringRd_payload_storable (g : GSem nD τ sig) (r : ℕ) (b : Bool) :
    BI.Storable (upEmb : UEmb _ 𝕄) ((ringRd (F := F) m ρ).payload g r b) := by
  rcases g with ⟨c, q | q⟩
  · show BI.Storable upEmb (barPay b (tgt b c.1)); infer_instance
  · show BI.Storable upEmb (match place q with | some j => xferPay m ρ c.1 (isRecv j) (keyOf j) | none => iprop(emp))
    split <;> infer_instance

section Sched
variable (c : Dev nD) (j : Fin 48) (k : Key)

theorem duties_bar : (ringRd (F := F) m ρ).duties (barCell c) 0 = Finset.univ := by
  dsimp only [ringRd]; rw [if_pos ⟨rfl, rfl⟩]; exact if_pos rfl
theorem duties_d : (ringRd (F := F) m ρ).duties (dCell c j) 0 = {false} := by
  dsimp only [ringRd]; rw [if_pos ⟨rfl, rfl⟩]; exact if_pos (by rw [place_dsem]; rfl)
theorem duties_later (g : GSem nD τ sig) : ∀ r, 1 ≤ r → (ringRd (F := F) m ρ).duties g r = ∅ :=
  fun r hr => by dsimp only [ringRd]; rw [if_neg fun h => by omega]

theorem amount_bar (b : Bool) : (ringRd (F := F) m ρ).amount (barCell c) 0 b = 1 := rfl
theorem amount_d (b : Bool) : (ringRd (F := F) m ρ).amount (dCell c j) 0 b = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_d : (ringRd (F := F) m ρ).expect (dCell c j) 0 = N := by
  unfold Schedule.expect Schedule.amountOf; rw [duties_d, Finset.sum_singleton, amount_d]

theorem payload_bar (b : Bool) : (ringRd (F := F) m ρ).payload (barCell c) 0 b = barPay b (tgt b c) := rfl
theorem payload_d (b : Bool) : (ringRd (F := F) m ρ).payload (dCell c j) 0 b = xferPay m ρ c (isRecv j) (keyOf j) := by
  show (match place (dsem j) with | some j => xferPay m ρ c (isRecv j) (keyOf j) | none => iprop(emp)) = _
  rw [place_dsem]
theorem payload_send (b : Bool) : (ringRd (F := F) m ρ).payload (sendCell c k) 0 b = sendPay m ρ c k := by
  rw [payload_d, isRecv_send, keyOf_send]; rfl
theorem payload_recv (b : Bool) : (ringRd (F := F) m ρ).payload (recvCell c k) 0 b = recvPay m ρ c k := by
  rw [payload_d, isRecv_recv, keyOf_recv]; rfl

/-- The barrier's round, no duty taken: both neighbours' landing pieces. -/
theorem rest_bar : bigSep ((ringRd (F := F) m ρ).duties (barCell c) 0 \ ∅) (fun b => (ringRd (F := F) m ρ).payload (barCell c) 0 b)
    = bigSep Finset.univ fun b : Bool => barPay b (tgt b c) := by
  rw [Finset.sdiff_empty, duties_bar]; rfl
theorem rest_send : bigSep ((ringRd (F := F) m ρ).duties (sendCell c k) 0 \ ∅) (fun b => (ringRd (F := F) m ρ).payload (sendCell c k) 0 b) = sendPay m ρ c k := by
  rw [Finset.sdiff_empty, duties_d, bigSep_singleton, payload_send]
theorem rest_recv : bigSep ((ringRd (F := F) m ρ).duties (recvCell c k) 0 \ ∅) (fun b => (ringRd (F := F) m ρ).payload (recvCell c k) 0 b) = recvPay m ρ c k := by
  rw [Finset.sdiff_empty, duties_d, bigSep_singleton, payload_recv]

end Sched

/-! ## What a device owes, and in what order it pays -/

/-- The `i`-th transfer a device issues. -/
def nth (i : ℕ) : Key := (decide (i % 2 = 0), ⟨i / 8 % 3, by omega⟩, ⟨i % 8 / 2, by omega⟩)
/-- A transfer's place in that order. -/
def ixOf (k : Key) : ℕ := 8 * k.2.1.val + 2 * k.2.2.val + (if k.1 then 0 else 1)

theorem nth_ixOf (k : Key) : nth (ixOf k) = k := by revert k; decide
theorem ixOf_lt (k : Key) : ixOf k < 24 := by revert k; decide
theorem ixOf_nth : ∀ i < 24, ixOf (nth i) = i := by decide

/-- What device `c` still owes with `n` transfers to issue: a piece's credit to each landing. -/
def Orem (c : Dev nD) (n : ℕ) : CellTallies nD τ sig Unit :=
  ∑ i ∈ Finset.range n, tallyAt (recvCell (tgt (nth (23 - i)).1 c) (nth (23 - i))) () N

theorem Orem_zero (c : Dev nD) : Orem c 0 = 0 := rfl
theorem Orem_succ (c : Dev nD) (n : ℕ) : Orem c (n + 1) = Orem c n + tallyAt (recvCell (tgt (nth (23 - n)).1 c) (nth (23 - n))) () N :=
  Finset.sum_range_succ _ _

/-- At launch also one unit to each neighbour's barrier cell: first to the device before, then to the next. -/
def O₁ (c : Dev nD) : CellTallies nD τ sig Unit := Orem c 24 + tallyAt (barCell (nxt c)) () 1
def O₀ (c : Dev nD) : CellTallies nD τ sig Unit := O₁ c + tallyAt (barCell (prv c)) () 1

/-- Among what is owed with `n` transfers to issue are only receive cells, of the last `n` transfers. -/
theorem Orem_pos {c : Dev nD} {n : ℕ} {g : GSem nD τ sig} {u : Unit} (h : 0 < Orem c n g u) :
    ∃ i < n, g = recvCell (tgt (nth (23 - i)).1 c) (nth (23 - i)) := by
  induction n with
  | zero => exact absurd h (Nat.lt_irrefl 0)
  | succ n ih =>
    rw [Orem_succ, Pi.add_apply, Finsupp.add_apply, tallyAt_apply] at h
    by_cases hg : g = recvCell (tgt (nth (23 - n)).1 c) (nth (23 - n)) ∧ u = ()
    · exact ⟨n, Nat.lt_succ_self n, hg.1⟩
    · rw [if_neg hg, Nat.add_zero] at h
      obtain ⟨i, hi, e⟩ := ih h
      exact ⟨i, Nat.lt_succ_of_lt hi, e⟩

theorem O₀_pos {c : Dev nD} {g : GSem nD τ sig} {u : Unit} (h : 0 < O₀ c g u) :
    (∃ i < 24, g = recvCell (tgt (nth (23 - i)).1 c) (nth (23 - i))) ∨ ∃ c', g = barCell c' := by
  by_cases h1 : g = barCell (prv c)
  · exact .inr ⟨_, h1⟩
  by_cases h2 : g = barCell (nxt c)
  · exact .inr ⟨_, h2⟩
  have e : O₀ c g u = Orem c 24 g u := by
    unfold O₀ O₁
    rw [Pi.add_apply, Finsupp.add_apply, Pi.add_apply, Finsupp.add_apply, tallyAt_apply, tallyAt_apply,
      if_neg (fun h' => h2 h'.1), if_neg (fun h' => h1 h'.1), Nat.add_zero]
  rw [e] at h
  exact .inl (Orem_pos h)

/-! ## Levels -/

def L (g : GSem nD τ sig) : Finset Unit := if g.1.2 = .tc then {()} else ∅
/-- A barrier cell stands at 1, a receive cell of hop `h` at `2 + h`, everything else (staging, send) at 0. -/
def lvS : SemLoc sig → ℕ
  | .reg _ => 1
  | .dma q => match place q with
    | some j => if isRecv j then 2 + (keyOf j).2.1.val else 0
    | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_send (c : Dev nD) (k : Key) : lv (sendCell c k) () = 0 := by
  show (match place (dsem (sendIx k)) with | some j => if isRecv j then 2 + (keyOf j).2.1.val else 0 | none => 0) = 0
  rw [place_dsem]; show (if isRecv (sendIx k) then _ else 0) = 0; rw [isRecv_send]; rfl
theorem lv_recv (c : Dev nD) (k : Key) : lv (recvCell c k) () = 2 + k.2.1.val := by
  show (match place (dsem (recvIx k)) with | some j => if isRecv j then 2 + (keyOf j).2.1.val else 0 | none => 0) = _
  rw [place_dsem]; show (if isRecv (recvIx k) then 2 + (keyOf (recvIx k)).2.1.val else 0) = _; rw [isRecv_recv, keyOf_recv]; rfl

/-- A wait on a cell below everything owed is admissible. -/
theorem mayWait_of (c : Dev nD) (sm : SemLoc sig) (O : CellTallies nD τ sig Unit) (k : ℕ)
    (hk : lvS sm ≤ k) (hO : ∀ g u, 0 < O g u → g.1.2 = .tc ∧ k < lvS g.2) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

omit [FloatOps F] in
theorem mayWait_zero (c : Dev nD) (sm : SemLoc sig) : (levAts L lv : sProp 𝕄) ⊢ MayWait (c : Thread nD τ) sm () 0 := by
  rw [MayWait_zero]; iintro -; iempintro

/-- Staging waits, owing everything or nothing. -/
theorem mayWait_stage (c : Dev nD) (q : DmaSem sig) (hq : place q = none) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by show (match place q with | some j => _ | none => 0) ≤ 0; rw [hq]) (fun g u hg => ?_)
    rcases O₀_pos hg with ⟨i, _, rfl⟩ | ⟨c', rfl⟩
    · exact ⟨rfl, by have := lv_recv (tgt (nth (23 - i)).1 c) (nth (23 - i)); unfold lv at this; rw [this]; omega⟩
    · exact ⟨rfl, Nat.one_pos⟩
  · exact mayWait_zero c _

/-- The barrier wait: all 24 transfers owed, receive cells only. -/
theorem mayWait_bar (c : Dev nD) (n : ℕ) : (levAts L lv : sProp 𝕄) ⊢ MayWait (c : Thread nD τ) (.reg barS) () (Orem c n) :=
  mayWait_of c _ _ 1 (Nat.le_refl 1) (fun g u hg => by
    obtain ⟨i, _, rfl⟩ := Orem_pos hg
    exact ⟨rfl, by have := lv_recv (tgt (nth (23 - i)).1 c) (nth (23 - i)); unfold lv at this; rw [this]; omega⟩)

theorem hop_late : ∀ h : Fin 3, ∀ i : Fin 24, i.val + 8 * (h.val + 1) < 24 → h.val < (nth (23 - i.val)).2.1.val := by decide

/-- A receive wait of hop `h`, every transfer of the hops up to `h` issued. -/
theorem mayWait_recv (c : Dev nD) (k : Key) (n : ℕ) (hn : n + 8 * (k.2.1.val + 1) ≤ 24) :
    (levAts L lv : sProp 𝕄) ⊢ MayWait (c : Thread nD τ) (.dma (dsem (recvIx k))) () (Orem c n) :=
  mayWait_of c _ _ (2 + k.2.1.val) (le_of_eq (lv_recv c k)) (fun g u hg => by
    obtain ⟨i, hi, rfl⟩ := Orem_pos hg
    have hl := lv_recv (tgt (nth (23 - i)).1 c) (nth (23 - i)); unfold lv at hl
    refine ⟨rfl, ?_⟩
    rw [hl]
    have := hop_late k.2.1 ⟨i, by omega⟩ (by show i + _ < 24; omega)
    dsimp only at this
    omega)

end Cert.TwoRings
-- ==== Proof.Steps.lean ====
/-
# `Steps`: a device's state between two effects, and the rules that move it

`SendSt c k` and `RecvSt c k` say how far transfer `k` has come on the device that issues it and on the device it
arrives at; `St K c n f g` is the device's whole ring state with `n` transfers left to issue, the transfers at the
stages `f` (sending) and `g` (receiving). Each rule below takes one effect of the body, or the four or five that
always come together, from one such state to the next.
-/
module

public import proofs.«01_k».proof.Proof.Ring

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Pieces of a buffer -/

section Pieces
variable (c : Dev nD) {sp : CoreSpace} {sh : Shape} {e : EltTy} (M : Memref sig .tc sp sh e) (r : Rect sh) (hr : ∀ a, r.stride a = 1)

/-- A load of a piece that is owned reads what it holds. -/
theorem load_piece {hl : M.view.LoadsAt r} {α : Type} {Q : α → sProp 𝕄} {k : (r.shape.Idx → Elt F e) → Prog (TpuEff nD τ sig (Elt F) Λ₀ .tc) α}
    (q : PosShare TreeShare) (X : r.shape.Idx → Elt F e) :
    (owns (c : Thread nD τ) (M.slice r hr) q X : sProp 𝕄)
      ⊢ iprop((owns (c : Thread nD τ) (M.slice r hr) q X -∗ WP c (k X) Q) -∗ WP c (.op (.load M r hl) k) Q) := by
  unfold owns
  iintro ⟨%f, %hf, H⟩ Hk
  iapply (wp_load_rect 𝒱₀ (c : Thread nD τ) none Set.univ (m := M) (r := r) (Finset.Subset.refl _)) $$ H
  iintro H
  subst hf
  iapply Hk
  iexists f
  isplitr; · ipureintro; rfl
  iexact H

/-- A store of a whole piece that is owned leaves it holding what was stored. -/
theorem store_piece {w X : r.shape.Idx → Elt F e} {hx : (M.access r).Stores Finset.univ} {hm} {α : Type} {Q : α → sProp 𝕄}
    {k : PUnit → Prog (TpuEff nD τ sig (Elt F) Λ₀ .tc) α} :
    (owns (c : Thread nD τ) (M.slice r hr) fullShare X : sProp 𝕄)
      ⊢ iprop((owns (c : Thread nD τ) (M.slice r hr) fullShare w -∗ WP c (k ⟨⟩) Q) -∗ WP c (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (Finset.Subset.refl _)) $$ H
  iintro H
  iapply Hk
  iexists (M.access r).write (Elt F) f w Finset.univ
  isplitr; · ipureintro; exact View.read_write_univ _ _
  iexact H

end Pieces

/-! ## State -/

variable (K : Dev nD × Option (Fin 48) → ℕ)

/-- Every cell's invariant, under the names `K`, and that it has reached round 0. -/
def recs : sProp 𝕄 := bigSep Finset.univ fun ck : Dev nD × Option (Fin 48) =>
  iprop(cellInv ER (ringRd m ρ) (K ck) (kcell ck) ∗ reached ER (kcell ck) 0)

instance recs_persistent : BI.Persistent (recs (F := F) m ρ K) := by unfold recs; infer_instance

theorem recs_at (ck : Dev nD × Option (Fin 48)) :
    recs (F := F) m ρ K ⊢ iprop(cellInv ER (ringRd m ρ) (K ck) (kcell ck) ∗ reached ER (kcell ck) 0) :=
  bigSep_elim (Finset.mem_univ ck)

/-- Transfer `k` on the issuing device: 0, not issued; 1, issued; 2, gone, the piece it was read from back. -/
def SendSt (c : Dev nD) (k : Key) : ℕ → sProp 𝕄
  | 0 => iprop(atPos ER (sendCell c k) 0 ∅ 0 ∗ dutyTok ER (sendCell c k) 0 false ∗ dutyTok ER (recvCell (tgt k.1 c) k) 0 false
      ∗ (∃ X, owns (tgt k.1 c : Thread nD τ) (pc k.1 k.2.1.succ k.2.2) fullShare X))
  | 1 => iprop(atPos ER (sendCell c k) 0 ∅ 0 ∗ cred (tallyAt (sendCell c k) () N))
  | _ => iprop(atPos ER (sendCell c k) 1 ∅ 0 ∗ sendPay m ρ c k)

/-- Transfer `k` on the receiving device: 0, not arrived; 1, arrived, its piece held; 2, its piece passed on. -/
def RecvSt (c : Dev nD) (k : Key) : ℕ → sProp 𝕄
  | 0 => iprop(atPos ER (recvCell c k) 0 ∅ 0 ∗ cred (tallyAt (recvCell c k) () N))
  | 1 => iprop(atPos ER (recvCell c k) 1 ∅ 0 ∗ recvPay m ρ c k)
  | _ => atPos ER (recvCell c k) 1 ∅ 0

/-- What device `c` owes with `n` transfers to issue, having waited on anything. -/
def Owe (c : Dev nD) (n : ℕ) : sProp 𝕄 := iprop(∃ W, owes (c : Thread nD τ) (Orem c n) W)

/-- Device `c`'s ring state. -/
def St (c : Dev nD) (n : ℕ) (f g : Key → ℕ) : sProp 𝕄 :=
  iprop(recs m ρ K ∗ levAts L lv ∗ Owe c n ∗ (bigSep Finset.univ fun k => SendSt m ρ c k (f k)) ∗ (bigSep Finset.univ fun k => RecvSt m ρ c k (g k)))

omit [FloatOps F] in
/-- Taking one member out of a family indexed by stages, to put it back at another stage. -/
theorem family_at (Φ : Key → ℕ → sProp 𝕄) (f : Key → ℕ) (k : Key) (a b : ℕ) (ha : f k = a) :
    (bigSep Finset.univ fun k => Φ k (f k)) ⊢ iprop(Φ k a ∗ (Φ k b -∗ bigSep Finset.univ fun k' => Φ k' (Function.update f k b k'))) := by
  subst ha
  rw [bigSep_erase (Finset.mem_univ k) (Φ := fun k => Φ k (f k)),
    bigSep_erase (Finset.mem_univ k) (Φ := fun k' => Φ k' (Function.update f k b k'))]
  refine (show iprop(Φ k (f k) ∗ bigSep (Finset.univ.erase k) fun k => Φ k (f k)) ⊢ iprop(Φ k (f k) ∗ (Φ k b -∗
    (Φ k (Function.update f k b k) ∗ bigSep (Finset.univ.erase k) fun k' => Φ k' (Function.update f k b k')))) from ?_)
  iintro ⟨Hk, Hr⟩
  isplitl [Hk]; · iexact Hk
  iintro Hb
  isplitl [Hb]; · rw [Function.update_self]; iexact Hb
  rw [bigSep_congr (fun k' (hk' : k' ∈ Finset.univ.erase k) => by rw [Function.update_of_ne (Finset.ne_of_mem_erase hk')] :
    ∀ k' ∈ Finset.univ.erase k, Φ k' (Function.update f k b k') = Φ k' (f k'))]
  iexact Hr

/-! ## Issuing a transfer -/

/-- A piece as the transfers name it is owned exactly as the piece: the same elements, read in the same order. -/
theorem read_pq_src (d : Bool) (h s : Fin 4) (f : (commM d).view.ty.Contents (Elt F)) (y : S64x512.Idx) :
    (pq d h s).view.read (Elt F) f y = (pc d h s).view.read (Elt F) f (Shape.reshapeEquiv squeezes_S1x64x512_S64x512.numel_eq y) := rfl

/-- What the transfer leaves in the landing piece is what the sent piece held. -/
theorem read_landing (d : Bool) (h h' s : Fin 4) (fs fd : (commM d).view.ty.Contents (Elt F)) :
    (pc d h' s).view.read (Elt F) ((pq d h' s).view.write (Elt F) fd ((pq d h s).view.read (Elt F) fs) Finset.univ)
      = (pc d h s).view.read (Elt F) fs := by
  have e := View.read_write_univ (v := (pq d h' s).view) (Val := Elt F) fd ((pq d h s).view.read (Elt F) fs)
  funext x
  have := congrFun e ((Shape.reshapeEquiv squeezes_S1x64x512_S64x512.numel_eq).symm x)
  rw [read_pq_src, read_pq_src, Equiv.apply_symm_apply] at this
  exact this

omit [FloatOps F] in
theorem pts_pq (c : Dev nD) (d : Bool) (h s : Fin 4) (f : Buf (Elt F) ((commM d).view.loc (c : Thread nD τ))) :
    ((pq d h s).view.loc (c : Thread nD τ) ↦[(pq d h s).view.set]{fullShare} f : sProp 𝕄)
      = ((pc d h s).view.loc (c : Thread nD τ) ↦[(pc d h s).view.set]{fullShare} f) :=
  congrArg (fun S : Finset (Idx ((commM d).view.loc (c : Thread nD τ))) => ((commM d).view.loc (c : Thread nD τ) ↦[S]{fullShare} f : sProp 𝕄))
    (View.set_reshape (pc d h s).view squeezes_S1x64x512_S64x512.numel_eq)

/-- Issuing transfer `k` of device `c`, addressed to `n`: the piece it reads goes with it, the landing piece's owner gets it
    filled. -/
theorem wp_issue (c n : Dev nD) (k : Key) (hn : n = tgt k.1 c) (X Y : Vec F S1x64x512 .bf16) (hX : X = val m ρ k.1 k.2.1.val c k.2.2)
    {hsc : (pq k.1 k.2.1.succ k.2.2 : Memref sig (Dev.tc n : Thread nD τ).2.kind .vmem S64x512 .bf16).view.ref.isScScratch = false}
    {hsrc : (pq k.1 k.2.1.castSucc k.2.2).view.WordExact} {hdst : (pq k.1 k.2.1.succ k.2.2).view.WordExact}
    {hsem : DmaTarget.Typed .vmem (.dma (dsem (recvIx k))) (.remote (Dev.tc n : Thread nD τ) (pq k.1 k.2.1.succ k.2.2) (.dma (dsem (sendIx k))) hsc)}
    {α : Type} {Q : α → sProp 𝕄} {kk : PUnit → Prog (TpuEff nD τ sig (Elt F) Λ₀ .tc) α} (W : Waits sig Unit)
    (O₁ O : CellTallies nD τ sig Unit) (hO : O₁ = O + tallyAt (recvCell n k) () N) :
    iprop(recs m ρ K ∗ owns (c : Thread nD τ) (pc k.1 k.2.1.castSucc k.2.2) fullShare X ∗ owns (n : Thread nD τ) (pc k.1 k.2.1.succ k.2.2) fullShare Y
        ∗ owes (c : Thread nD τ) O₁ W ∗ dutyTok ER (sendCell c k) 0 false ∗ dutyTok ER (recvCell n k) 0 false)
      ⊢ iprop(((cred (tallyAt (sendCell c k) () N) ∗ owes (c : Thread nD τ) O W) -∗ WP c (kk ⟨⟩) Q)
          -∗ WP c (.op (.enqueueDma (pq k.1 k.2.1.castSucc k.2.2) (.remote (Dev.tc n : Thread nD τ) (pq k.1 k.2.1.succ k.2.2) (.dma (dsem (sendIx k))) hsc)
              (.dma (dsem (recvIx k))) hsrc hdst hsem) kk) Q) := by
  subst hn hX
  unfold owns
  iintro ⟨#HR, ⟨%fs, %hfs, Hs⟩, ⟨%fd, %hfd, Hd⟩, HO, HtS, HtR⟩
  ihave #H1 := (recs_at m ρ K (c, some (sendIx k))) $$ HR
  ihave #H2 := (recs_at m ρ K (tgt k.1 c, some (recvIx k))) $$ HR
  icases H1 with ⟨#HI1, #Hr1⟩
  icases H2 with ⟨#HI2, #Hr2⟩
  iapply (Rounds.wp_send_pointsTo 𝒱₀ ER (ringRd m ρ) (c : Thread nD τ) none (κ₁ := K (c, some (sendIx k))) (κ₂ := K (tgt k.1 c, some (recvIx k)))
    (src := pq k.1 k.2.1.castSucc k.2.2) (dst := pq k.1 k.2.1.succ k.2.2) (c' := (tgt k.1 c : Thread nD τ)) (sS := .dma (dsem (sendIx k))) (sem := .dma (dsem (recvIx k)))
    (r₁ := 0) (r₂ := 0) (d₁ := false) (d₂ := false) (fs := fs) (fd := fd) (q := fullShare)
    (by rw [duties_d]; exact Finset.mem_singleton_self _) (by rw [duties_d]; exact Finset.mem_singleton_self _)
    () () N (credit_pq _ _ _) (amount_d m ρ c _ false) (amount_d m ρ (tgt k.1 c) _ false) O hO (W := W)
    (by
      rw [payload_send]; unfold sendPay
      rw [← hfs]
      exact (Entails.of_eq (pts_pq c k.1 k.2.1.castSucc k.2.2 fs)).trans <| owns_intro (c : Thread nD τ) (pc k.1 k.2.1.castSucc k.2.2) fullShare fs)
    (by
      rw [payload_recv]; unfold recvPay
      rw [src_tgt, ← hfs, ← read_landing k.1 k.2.1.castSucc k.2.1.succ k.2.2 fs fd]
      exact (Entails.of_eq (pts_pq (tgt k.1 c) k.1 k.2.1.succ k.2.2 _)).trans <| owns_intro (tgt k.1 c : Thread nD τ) (pc k.1 k.2.1.succ k.2.2) fullShare _)) $$ [Hs Hd HO HtS HtR]
  isplitr; · iexact HI1
  isplitr; · iexact HI2
  isplitl [Hs]; · iapply (Entails.of_eq (pts_pq c k.1 k.2.1.castSucc k.2.2 fs).symm); iexact Hs
  isplitl [Hd]; · iapply (Entails.of_eq (pts_pq (tgt k.1 c) k.1 k.2.1.succ k.2.2 fd).symm); iexact Hd
  isplitl [HO]; · iexact HO
  isplitl [HtS]; · iexact HtS
  isplitr; · iexact Hr1
  isplitl [HtR]; · iexact HtR
  iexact Hr2

/-! ## The ring state, effect by effect -/

section StateRules
variable (c : Dev nD) (n : ℕ) (f g : Key → ℕ)

/-- Issuing the next transfer, its piece at hand. -/
theorem st_issue (k : Key) (hk : nth (23 - n) = k) (hf : f k = 0) (n' : Dev nD) (hn : n' = tgt k.1 c)
    {hsc : (pq k.1 k.2.1.succ k.2.2 : Memref sig (Dev.tc n' : Thread nD τ).2.kind .vmem S64x512 .bf16).view.ref.isScScratch = false}
    {hsrc : (pq k.1 k.2.1.castSucc k.2.2).view.WordExact} {hdst : (pq k.1 k.2.1.succ k.2.2).view.WordExact}
    {hsem : DmaTarget.Typed .vmem (.dma (dsem (recvIx k))) (.remote (Dev.tc n' : Thread nD τ) (pq k.1 k.2.1.succ k.2.2) (.dma (dsem (sendIx k))) hsc)}
    {α : Type} {Q : α → sProp 𝕄} {kk : PUnit → Prog (TpuEff nD τ sig (Elt F) Λ₀ .tc) α} :
    iprop(St m ρ K c (n + 1) f g ∗ sendPay m ρ c k)
      ⊢ iprop((St m ρ K c n (Function.update f k 1) g -∗ WP c (kk ⟨⟩) Q)
          -∗ WP c (.op (.enqueueDma (pq k.1 k.2.1.castSucc k.2.2) (.remote (Dev.tc n' : Thread nD τ) (pq k.1 k.2.1.succ k.2.2) (.dma (dsem (sendIx k))) hsc)
              (.dma (dsem (recvIx k))) hsrc hdst hsem) kk) Q) := by
  subst hn
  unfold St Owe
  iintro ⟨⟨#HR, #HL, ⟨%W, HO⟩, HS, HG⟩, Hp⟩ Hk
  ihave HS' := (family_at (fun k => SendSt m ρ c k) f k 0 1 hf) $$ HS
  icases HS' with ⟨H0, Hback⟩
  ihave H0' := (show SendSt m ρ c k 0 ⊢ iprop(atPos ER (sendCell c k) 0 ∅ 0 ∗ dutyTok ER (sendCell c k) 0 false ∗ dutyTok ER (recvCell (tgt k.1 c) k) 0 false
      ∗ (∃ X, owns (tgt k.1 c : Thread nD τ) (pc k.1 k.2.1.succ k.2.2) fullShare X)) from .rfl) $$ H0
  icases H0' with ⟨Hat, HtS, HtR, ⟨%Y, HY⟩⟩
  unfold sendPay
  iapply (wp_issue m ρ K c (tgt k.1 c) k rfl _ Y rfl W (Orem c (n + 1)) (Orem c n) (by rw [Orem_succ, hk])) $$ [Hp HY HO HtS HtR]
  · isplitr; · iexact HR
    isplitl [Hp]; · iexact Hp
    isplitl [HY]; · iexact HY
    isplitl [HO]; · iexact HO
    isplitl [HtS]; · iexact HtS
    iexact HtR
  iintro ⟨Hc, HO⟩
  iapply Hk
  isplitr; · iexact HR
  isplitr; · iexact HL
  isplitl [HO]; · iexists W; iexact HO
  isplitl [Hback Hat Hc]
  · iapply Hback
    ihave H1 := (show iprop(atPos ER (sendCell c k) 0 ∅ 0 ∗ cred (tallyAt (sendCell c k) () N)) ⊢ SendSt m ρ c k 1 from .rfl) $$ [Hat Hc]
    · isplitl [Hat]; · iexact Hat
      iexact Hc
    iexact H1
  iexact HG

/-- The wait for the arrival of transfer `k`, the later transfers' credits still owed: its piece is at hand. -/
theorem st_arrive (k : Key) (b : ℕ) (hg : g k = 0) (hn : n + 8 * (k.2.1.val + 1) ≤ 24) (q : DmaSem sig) (hq : q = dsem (recvIx k))
    {sp sp' : Space} {s s' : Shape} {e e' : EltTy} {ms : Memref sig .tc sp s e} {md : Memref sig .tc sp' s' e'}
    {h₁ : ms.view.WordExact} {h₂ : md.view.WordExact} (hN : md.view.dmaCredit = N)
    {α : Type} {Q : α → sProp 𝕄} {kk : PUnit → Prog (TpuEff nD τ sig (Elt F) Λ₀ .tc) α} :
    St m ρ K c n f g
      ⊢ iprop((iprop(recvPay m ρ c k ∗ atPos ER (recvCell c k) 1 ∅ 0
              ∗ (RecvSt m ρ c k b -∗ St m ρ K c n f (Function.update g k b))) -∗ WP c (kk ⟨⟩) Q)
          -∗ WP c (.op (.waitDma2 q ms md h₁ h₂) kk) Q) := by
  subst hq
  unfold St Owe
  iintro ⟨#HR, #HL, ⟨%W, HO⟩, HS, HG⟩ Hk
  ihave HG' := (family_at (fun k => RecvSt m ρ c k) g k 0 b hg) $$ HG
  icases HG' with ⟨H0, Hback⟩
  ihave H0' := (show RecvSt m ρ c k 0 ⊢ iprop(atPos ER (recvCell c k) 0 ∅ 0 ∗ cred (tallyAt (recvCell c k) () N)) from .rfl) $$ H0
  icases H0' with ⟨Hat, Hc⟩
  ihave #H1 := (recs_at m ρ K (c, some (recvIx k))) $$ HR
  icases H1 with ⟨#HI1, #Hr1⟩
  iapply (Rounds.wp_wait_rest_token 𝒱₀ ER (ringRd m ρ) (c : Thread nD τ) none (κ := K (c, some (recvIx k)))
      (wpE_waitDma2_eq 𝒱₀ (c : Thread nD τ) none Set.univ) (Set.mem_univ _) () (O := Orem c n) (W := W) (R := 0) (m := 0) (T := ∅)
      (by rw [Nat.zero_add, expect_d, hN])) $$ [Hc HO Hat]
  · isplitr; · iexact HI1
    isplitl [Hc]; · rw [hN]; iexact Hc
    isplitl [HO]; · iexact HO
    isplitr; · iapply (mayWait_recv c k n hn); iexact HL
    iexact Hat
  iintro ⟨HO, Hat, -, Hpay⟩
  ihave Hp := (Entails.of_eq (rest_recv m ρ c k)) $$ Hpay
  iapply Hk
  isplitl [Hp]; · iexact Hp
  isplitl [Hat]; · iexact Hat
  iintro Hb
  isplitr; · iexact HR
  isplitr; · iexact HL
  isplitl [HO]; · iexists _; iexact HO
  isplitl [HS]; · iexact HS
  iapply Hback
  iexact Hb

/-- The wait for transfer `k` to be gone, everything issued. -/
theorem st_gone (k : Key) (hf : f k = 1) (q : DmaSem sig) (hq : q = dsem (sendIx k))
    {sp sp' : Space} {s s' : Shape} {e e' : EltTy} {ms : Memref sig .tc sp s e} {md : Memref sig .tc sp' s' e'}
    {h₁ : ms.view.WordExact} {h₂ : md.view.WordExact} (hN : md.view.dmaCredit = N)
    {α : Type} {Q : α → sProp 𝕄} {kk : PUnit → Prog (TpuEff nD τ sig (Elt F) Λ₀ .tc) α} :
    St m ρ K c 0 f g
      ⊢ iprop((St m ρ K c 0 (Function.update f k 2) g -∗ WP c (kk ⟨⟩) Q)
          -∗ WP c (.op (.waitDma2 q ms md h₁ h₂) kk) Q) := by
  subst hq
  unfold St Owe
  iintro ⟨#HR, #HL, ⟨%W, HO⟩, HS, HG⟩ Hk
  ihave HS' := (family_at (fun k => SendSt m ρ c k) f k 1 2 hf) $$ HS
  icases HS' with ⟨H0, Hback⟩
  ihave H0' := (show SendSt m ρ c k 1 ⊢ iprop(atPos ER (sendCell c k) 0 ∅ 0 ∗ cred (tallyAt (sendCell c k) () N)) from .rfl) $$ H0
  icases H0' with ⟨Hat, Hc⟩
  ihave #H1 := (recs_at m ρ K (c, some (sendIx k))) $$ HR
  icases H1 with ⟨#HI1, #Hr1⟩
  iapply (Rounds.wp_wait_rest_token 𝒱₀ ER (ringRd m ρ) (c : Thread nD τ) none (κ := K (c, some (sendIx k)))
      (wpE_waitDma2_eq 𝒱₀ (c : Thread nD τ) none Set.univ) (Set.mem_univ _) () (O := Orem c 0) (W := W) (R := 0) (m := 0) (T := ∅)
      (by rw [Nat.zero_add, expect_d, hN])) $$ [Hc HO Hat]
  · isplitr; · iexact HI1
    isplitl [Hc]; · rw [hN]; iexact Hc
    isplitl [HO]; · iexact HO
    isplitr; · rw [Orem_zero]; iapply (mayWait_zero (F := F) c (.dma (dsem (sendIx k)))); iexact HL
    iexact Hat
  iintro ⟨HO, Hat, -, Hpay⟩
  ihave Hp := (Entails.of_eq (rest_send m ρ c k)) $$ Hpay
  iapply Hk
  isplitr; · iexact HR
  isplitr; · iexact HL
  isplitl [HO]; · iexists _; iexact HO
  isplitl [Hback Hat Hp]
  · iapply Hback
    ihave H1 := (show iprop(atPos ER (sendCell c k) 1 ∅ 0 ∗ sendPay m ρ c k) ⊢ SendSt m ρ c k 2 from .rfl) $$ [Hat Hp]
    · isplitl [Hat]; · iexact Hat
      iexact Hp
    iexact H1
  iexact HG

/-- One hop of one segment: wait for the arrival of `(d, h, s)`, add the device's own partial product to the piece in place,
    and issue `(d, h + 1, s)` from it. -/
theorem st_hop (d : Bool) (h : Fin 2) (s : Fin 4) (hk : nth (23 - n) = (d, h.succ, s)) (hf : f (d, h.succ, s) = 0)
    (hg : g (d, h.castSucc, s) = 0) (hn : n + 1 + 8 * (h.val + 1) ≤ 24)
    (n' : Dev nD) (hn' : n' = tgt d c)
    (q : DmaSem sig) (hq : q = dsem (recvIx (d, h.castSucc, s)))
    {sp sp' : Space} {s₁ s₂ : Shape} {e₁ e₂ : EltTy} {ms : Memref sig .tc sp s₁ e₁} {md : Memref sig .tc sp' s₂ e₂}
    {h₁ : ms.view.WordExact} {h₂ : md.view.WordExact} (hN : md.view.dmaCredit = N)
    {hl : (commM d).view.LoadsAt (slotR h.succ.castSucc s)} {hx : ((commM d).access (slotR h.succ.castSucc s)).Stores Finset.univ} {hm}
    {w : Vec F S1x64x512 .bf16 → Vec F S1x64x512 .bf16} (hw : ∀ X, w X = k0_pay9 (addP m ρ d h c s) X)
    {hsc : (pq d h.succ.succ s : Memref sig (Dev.tc n' : Thread nD τ).2.kind .vmem S64x512 .bf16).view.ref.isScScratch = false}
    {hsrc : (pq d h.succ.castSucc s).view.WordExact} {hdst : (pq d h.succ.succ s).view.WordExact}
    {hsem : DmaTarget.Typed .vmem (.dma (dsem (recvIx (d, h.succ, s)))) (.remote (Dev.tc n' : Thread nD τ) (pq d h.succ.succ s) (.dma (dsem (sendIx (d, h.succ, s)))) hsc)}
    {α : Type} {Q : α → sProp 𝕄} {kk : PUnit → Prog (TpuEff nD τ sig (Elt F) Λ₀ .tc) α} :
    St m ρ K c (n + 1) f g
      ⊢ iprop((St m ρ K c n (Function.update f (d, h.succ, s) 1) (Function.update g (d, h.castSucc, s) 2) -∗ WP c (kk ⟨⟩) Q)
          -∗ WP c (.op (.waitDma2 q ms md h₁ h₂) fun _ => .op (.load (commM d) (slotR h.succ.castSucc s) hl) fun v =>
              .op (.load (commM d) (slotR h.succ.castSucc s) hl) fun _ =>
              .op (.store (commM d) (slotR h.succ.castSucc s) (w v) Finset.univ hx hm) fun _ =>
              .op (.enqueueDma (pq d h.succ.castSucc s) (.remote (Dev.tc n' : Thread nD τ) (pq d h.succ.succ s) (.dma (dsem (sendIx (d, h.succ, s)))) hsc)
              (.dma (dsem (recvIx (d, h.succ, s)))) hsrc hdst hsem) kk) Q) := by
  iintro HSt Hk
  iapply (st_arrive m ρ K c (n + 1) f g (d, h.castSucc, s) 2 hg hn q hq (ms := ms) (md := md) hN) $$ HSt
  iintro ⟨Hp, Hat, Hback⟩
  ihave Hat := (show atPos ER (recvCell c (d, h.castSucc, s)) 1 ∅ 0 ⊢ RecvSt m ρ c (d, h.castSucc, s) 2 from .rfl) $$ Hat
  ihave HSt := Hback $$ Hat
  ihave Hp := (show recvPay m ρ c (d, h.castSucc, s) ⊢ owns (c : Thread nD τ) ((commM d).slice (slotR h.succ.castSucc s) (fun _ => rfl)) fullShare
    (val m ρ d h.castSucc.val (src d c) s) from .rfl) $$ Hp
  iapply (load_piece c (commM d) (slotR h.succ.castSucc s) (fun _ => rfl) fullShare _) $$ Hp
  iintro Hp
  iapply (load_piece c (commM d) (slotR h.succ.castSucc s) (fun _ => rfl) fullShare _) $$ Hp
  iintro Hp
  iapply (store_piece c (commM d) (slotR h.succ.castSucc s) (fun _ => rfl)) $$ Hp
  iintro Hp
  iapply (st_issue m ρ K c n f (Function.update g (d, h.castSucc, s) 2) (d, h.succ, s) hk hf n' hn') $$ [HSt Hp]
  · isplitl [HSt]; · iexact HSt
    unfold sendPay
    rw [hw, show val m ρ d h.succ.val c s = k0_pay9 (addP m ρ d h c s) (val m ρ d h.castSucc.val (src d c) s) from by
      fin_cases h <;> rfl]
    iexact Hp
  iexact Hk

/-- The last hop's arrival, its piece read and kept. -/
theorem st_last (d : Bool) (s : Fin 4) (hg : g (d, 2, s) = 0)
    (q : DmaSem sig) (hq : q = dsem (recvIx (d, 2, s)))
    {sp sp' : Space} {s₁ s₂ : Shape} {e₁ e₂ : EltTy} {ms : Memref sig .tc sp s₁ e₁} {md : Memref sig .tc sp' s₂ e₂}
    {h₁ : ms.view.WordExact} {h₂ : md.view.WordExact} (hN : md.view.dmaCredit = N)
    {hl : (commM d).view.LoadsAt (slotR 3 s)}
    {α : Type} {Q : α → sProp 𝕄} {kk : Vec F S1x64x512 .bf16 → Prog (TpuEff nD τ sig (Elt F) Λ₀ .tc) α} :
    St m ρ K c 0 f g
      ⊢ iprop((St m ρ K c 0 f (Function.update g (d, 2, s) 1) -∗ WP c (kk (val m ρ d 2 (src d c) s)) Q)
          -∗ WP c (.op (.waitDma2 q ms md h₁ h₂) fun _ => .op (.load (commM d) (slotR 3 s) hl) kk) Q) := by
  iintro HSt Hk
  iapply (st_arrive m ρ K c 0 f g (d, 2, s) 1 hg (Nat.le_refl 24) q hq (ms := ms) (md := md) hN) $$ HSt
  iintro ⟨Hp, Hat, Hback⟩
  ihave Hp := (show recvPay m ρ c (d, 2, s) ⊢ owns (c : Thread nD τ) ((commM d).slice (slotR 3 s) (fun _ => rfl)) fullShare
    (val m ρ d 2 (src d c) s) from .rfl) $$ Hp
  iapply (load_piece c (commM d) (slotR 3 s) (fun _ => rfl) fullShare _) $$ Hp
  iintro Hp
  ihave Hs := (show iprop(atPos ER (recvCell c (d, 2, s)) 1 ∅ 0 ∗ owns (c : Thread nD τ) ((commM d).slice (slotR 3 s) (fun _ => rfl)) fullShare
    (val m ρ d 2 (src d c) s)) ⊢ RecvSt m ρ c (d, 2, s) 1 from .rfl) $$ [Hat Hp]
  · isplitl [Hat]; · iexact Hat
    iexact Hp
  ihave HSt := Hback $$ Hs
  iapply Hk
  iexact HSt

end StateRules

end Cert.TwoRings
-- ==== Proof.Stages.lean ====
module

public import proofs.«01_k».proof.Proof.Steps

/-! # Counting

Both streams together form one order: a transfer's place in the order of issue is its place in the order of arrival and in
the order of the final waits. So a device's ring state is three numbers: transfers issued, arrivals taken, transfers known to
be gone. The rules of `Steps` restated over these three numbers; likewise the output array by the number of pieces stored. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 48) → ℕ)

/-! ## Stages by number -/

/-- The stage of transfer `k` on its sender with `i` issued and `z` gone. -/
def fAt (i z : ℕ) (k : Key) : ℕ := if ixOf k < z then 2 else if ixOf k < i then 1 else 0
/-- The stage of transfer `k` on its receiver with `a` arrivals taken: those of the last hop keep their piece. -/
def gAt (a : ℕ) (k : Key) : ℕ := if ixOf k < a then (if k.2.1 = 2 then 1 else 2) else 0

theorem fAt_issue (i : ℕ) (hi : i < 24) : Function.update (fAt i 0) (nth i) 1 = fAt (i + 1) 0 := by
  have h : ∀ i : Fin 24, ∀ k, Function.update (fAt i.val 0) (nth i.val) 1 k = fAt (i.val + 1) 0 k := by decide
  exact funext (h ⟨i, hi⟩)
theorem fAt_gone (z : ℕ) (hz : z < 24) : Function.update (fAt 24 z) (nth z) 2 = fAt 24 (z + 1) := by
  have h : ∀ i : Fin 24, ∀ k, Function.update (fAt 24 i.val) (nth i.val) 2 k = fAt 24 (i.val + 1) k := by decide
  exact funext (h ⟨z, hz⟩)
theorem gAt_pass (a : ℕ) (ha : a < 16) : Function.update (gAt a) (nth a) 2 = gAt (a + 1) := by
  have h : ∀ i : Fin 16, ∀ k, Function.update (gAt i.val) (nth i.val) 2 k = gAt (i.val + 1) k := by decide
  exact funext (h ⟨a, ha⟩)
theorem gAt_keep (b : ℕ) (hb : b < 8) : Function.update (gAt (16 + b)) (nth (16 + b)) 1 = gAt (16 + b + 1) := by
  have h : ∀ i : Fin 8, ∀ k, Function.update (gAt (16 + i.val)) (nth (16 + i.val)) 1 k = gAt (16 + i.val + 1) k := by decide
  exact funext (h ⟨b, hb⟩)
theorem fAt_next (i : ℕ) (hi : i < 24) : fAt i 0 (nth i) = 0 := by
  have h : ∀ i : Fin 24, fAt i.val 0 (nth i.val) = 0 := by decide
  exact h ⟨i, hi⟩
theorem fAt_next' (z : ℕ) (hz : z < 24) : fAt 24 z (nth z) = 1 := by
  have h : ∀ i : Fin 24, fAt 24 i.val (nth i.val) = 1 := by decide
  exact h ⟨z, hz⟩
theorem gAt_next (a : ℕ) (ha : a < 24) : gAt a (nth a) = 0 := by
  have h : ∀ i : Fin 24, gAt i.val (nth i.val) = 0 := by decide
  exact h ⟨a, ha⟩

/-- Device `c`'s ring state with `i` transfers issued, `a` arrivals taken and `z` transfers known to be gone. -/
def At (c : Dev nD) (i a z : ℕ) : sProp 𝕄 := St m ρ K c (24 - i) (fAt i z) (gAt a)

/-! ## The rules by number -/

section Rules
variable (c : Dev nD)

/-- A program at its end, -/
theorem wp_done {α : Type} {Q : α → sProp 𝕄} {a : α} : Q a ⊢ WP c (.ret a) Q := by
  unfold WP
  rw [wp_ret]
  iintro H
  imodintro
  iexact H
/-- and one followed by another. -/
theorem wp_next {α β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := by
  unfold WP
  rw [wp_bind]

/-- Issuing one of the first eight transfers, its piece at hand. -/
theorem at_issue (i : ℕ) (hi : i < 8) (d : Bool) (s : Fin 4) (hk : nth i = (d, 0, s)) (n' : Dev nD) (hn : n' = tgt d c)
    {hsc : (pq d 1 s : Memref sig (Dev.tc n' : Thread nD τ).2.kind .vmem S64x512 .bf16).view.ref.isScScratch = false}
    {hsrc : (pq d 0 s).view.WordExact} {hdst : (pq d 1 s).view.WordExact}
    {hsem : DmaTarget.Typed .vmem (.dma (dsem (recvIx (d, 0, s)))) (.remote (Dev.tc n' : Thread nD τ) (pq d 1 s) (.dma (dsem (sendIx (d, 0, s)))) hsc)}
    {α : Type} {Q : α → sProp 𝕄} {kk : PUnit → Prog (TpuEff nD τ sig (Elt F) Λ₀ .tc) α} :
    iprop(At m ρ K c i 0 0 ∗ sendPay m ρ c (d, 0, s))
      ⊢ iprop((At m ρ K c (i + 1) 0 0 -∗ WP c (kk ⟨⟩) Q)
          -∗ WP c (.op (.enqueueDma (pq d 0 s) (.remote (Dev.tc n' : Thread nD τ) (pq d 1 s) (.dma (dsem (sendIx (d, 0, s)))) hsc)
              (.dma (dsem (recvIx (d, 0, s)))) hsrc hdst hsem) kk) Q) := by
  unfold At
  rw [← fAt_issue i (by omega), hk, show 24 - i = (23 - i) + 1 from by omega, show 24 - (i + 1) = 23 - i from by omega]
  exact st_issue m ρ K c (23 - i) (fAt i 0) (gAt 0) (d, 0, s) (by rw [show 23 - (23 - i) = i from by omega, hk])
    (by rw [← hk]; exact fAt_next i (by omega)) n' hn

/-- One hop of one segment. -/
theorem at_hop (a : ℕ) (ha : a < 16) (d : Bool) (h : Fin 2) (s : Fin 4) (hk : nth a = (d, h.castSucc, s)) (hk' : nth (8 + a) = (d, h.succ, s))
    (n' : Dev nD) (hn' : n' = tgt d c)
    {h₁ : (pq d h.castSucc.castSucc s).view.WordExact} {h₂ : (pq d h.castSucc.succ s).view.WordExact}
    {hl : (commM d).view.LoadsAt (slotR h.succ.castSucc s)} {hx : ((commM d).access (slotR h.succ.castSucc s)).Stores Finset.univ} {hm}
    {hsc : (pq d h.succ.succ s : Memref sig (Dev.tc n' : Thread nD τ).2.kind .vmem S64x512 .bf16).view.ref.isScScratch = false}
    {hsrc : (pq d h.succ.castSucc s).view.WordExact} {hdst : (pq d h.succ.succ s).view.WordExact}
    {hsem : DmaTarget.Typed .vmem (.dma (dsem (recvIx (d, h.succ, s)))) (.remote (Dev.tc n' : Thread nD τ) (pq d h.succ.succ s) (.dma (dsem (sendIx (d, h.succ, s)))) hsc)}
    {α : Type} {Q : α → sProp 𝕄} {kk : PUnit → Prog (TpuEff nD τ sig (Elt F) Λ₀ .tc) α} :
    At m ρ K c (8 + a) a 0
      ⊢ iprop((At m ρ K c (8 + a + 1) (a + 1) 0 -∗ WP c (kk ⟨⟩) Q)
          -∗ WP c (.op (.waitDma2 (dsem (recvIx (d, h.castSucc, s))) (pq d h.castSucc.castSucc s) (pq d h.castSucc.succ s) h₁ h₂) fun _ =>
              .op (.load (commM d) (slotR h.succ.castSucc s) hl) fun v =>
              .op (.load (commM d) (slotR h.succ.castSucc s) hl) fun _ =>
              .op (.store (commM d) (slotR h.succ.castSucc s) (k0_pay9 (addP m ρ d h c s) v) Finset.univ hx hm) fun _ =>
              .op (.enqueueDma (pq d h.succ.castSucc s) (.remote (Dev.tc n' : Thread nD τ) (pq d h.succ.succ s) (.dma (dsem (sendIx (d, h.succ, s)))) hsc)
              (.dma (dsem (recvIx (d, h.succ, s)))) hsrc hdst hsem) kk) Q) := by
  have hle : 15 - a + 1 + 8 * (h.val + 1) ≤ 24 := by
    have e := congrArg ixOf hk
    rw [ixOf_nth a (by omega)] at e
    simp only [ixOf, Fin.val_castSucc] at e
    have := s.isLt
    split at e <;> omega
  unfold At
  rw [← fAt_issue (8 + a) (by omega), ← gAt_pass a ha, hk, hk', show 24 - (8 + a) = (15 - a) + 1 from by omega,
    show 24 - (8 + a + 1) = 15 - a from by omega]
  exact st_hop m ρ K c (15 - a) (fAt (8 + a) 0) (gAt a) d h s (by rw [show 23 - (15 - a) = 8 + a from by omega, hk'])
    (by rw [← hk']; exact fAt_next (8 + a) (by omega)) (by rw [← hk]; exact gAt_next a (by omega)) hle n' hn' _ rfl
    (credit_pq d h.castSucc.succ s) (fun _ => rfl)

/-- The last hop's arrival, its piece read and kept. -/
theorem at_last (b : ℕ) (hb : b < 8) (d : Bool) (s : Fin 4) (hk : nth (16 + b) = (d, 2, s))
    {h₁ : (pq d 2 s).view.WordExact} {h₂ : (pq d 3 s).view.WordExact} {hl : (commM d).view.LoadsAt (slotR 3 s)}
    {α : Type} {Q : α → sProp 𝕄} {kk : Vec F S1x64x512 .bf16 → Prog (TpuEff nD τ sig (Elt F) Λ₀ .tc) α} :
    At m ρ K c 24 (16 + b) 0
      ⊢ iprop((At m ρ K c 24 (16 + b + 1) 0 -∗ WP c (kk (val m ρ d 2 (src d c) s)) Q)
          -∗ WP c (.op (.waitDma2 (dsem (recvIx (d, 2, s))) (pq d 2 s) (pq d 3 s) h₁ h₂) fun _ => .op (.load (commM d) (slotR 3 s) hl) kk) Q) := by
  unfold At
  rw [← gAt_keep b hb, hk]
  exact st_last m ρ K c (fAt 24 0) (gAt (16 + b)) d s (by rw [← hk]; exact gAt_next (16 + b) (by omega)) _ rfl (credit_pq d 3 s)

/-- The wait for a transfer to be gone. -/
theorem at_gone (z : ℕ) (hz : z < 24) (d : Bool) (h : Fin 3) (s : Fin 4) (hk : nth z = (d, h, s))
    {h₁ : (pq d h.succ s).view.WordExact} {h₂ : (pq d h.castSucc s).view.WordExact}
    {α : Type} {Q : α → sProp 𝕄} {kk : PUnit → Prog (TpuEff nD τ sig (Elt F) Λ₀ .tc) α} :
    At m ρ K c 24 24 z
      ⊢ iprop((At m ρ K c 24 24 (z + 1) -∗ WP c (kk ⟨⟩) Q)
          -∗ WP c (.op (.waitDma2 (dsem (sendIx (d, h, s))) (pq d h.succ s) (pq d h.castSucc s) h₁ h₂) kk) Q) := by
  unfold At
  rw [← fAt_gone z hz, hk]
  exact st_gone m ρ K c (fAt 24 z) (gAt 24) (d, h, s) (by rw [← hk]; exact fAt_next' z hz) _ rfl (credit_pq d h.castSucc s)

/-! ## The products a device adds -/

/-- An array of a device, whole, at stated contents. -/
abbrev pts (b : Ref sig .tc) (X : b.ty.Contents (Elt F)) : sProp 𝕄 := ((c : Thread nD τ).loc b) ↦{fullShare} X

/-- Device `c`'s products in place: the block two away, one half each of its neighbours' blocks, its own block. -/
def Adds : sProp 𝕄 := iprop(pts c cc0_scratch0 (pm m ρ c) ∗ pts c cc0_scratch1 (pr m ρ c) ∗ pts c cc0_scratch2 (pl m ρ c) ∗ pts c cc0_scratch3 (pf m ρ c))

/-- Reading the piece to be added at a middle hop, from the block two away, -/
theorem adds_load_m (d : Bool) (s : Fin 4) {hl : mM.view.LoadsAt (halfR d s)} {α : Type} {Q : α → sProp 𝕄}
    {kk : Vec F S64x512 .bf16 → Prog (TpuEff nD τ sig (Elt F) Λ₀ .tc) α} :
    Adds m ρ c ⊢ iprop((Adds m ρ c -∗ WP c (kk (addP m ρ d 0 c s)) Q) -∗ WP c (.op (.load mM (halfR d s) hl) kk) Q) := by
  unfold Adds
  iintro ⟨Hm, Hr, Hl, Hf⟩ Hk
  iapply (wp_load_rect 𝒱₀ (c : Thread nD τ) none Set.univ (m := mM) (r := halfR d s) (Finset.subset_univ _)) $$ Hm
  iintro Hm
  iapply Hk
  isplitl [Hm]; · iexact Hm
  isplitl [Hr]; · iexact Hr
  isplitl [Hl]; · iexact Hl
  iexact Hf
/-- from the right stream's other neighbour, -/
theorem adds_load_r (s : Fin 4) {hl : rM.view.LoadsAt (segR s)} {α : Type} {Q : α → sProp 𝕄}
    {kk : Vec F S64x512 .bf16 → Prog (TpuEff nD τ sig (Elt F) Λ₀ .tc) α} :
    Adds m ρ c ⊢ iprop((Adds m ρ c -∗ WP c (kk (addP m ρ true 1 c s)) Q) -∗ WP c (.op (.load rM (segR s) hl) kk) Q) := by
  unfold Adds
  iintro ⟨Hm, Hr, Hl, Hf⟩ Hk
  iapply (wp_load_rect 𝒱₀ (c : Thread nD τ) none Set.univ (m := rM) (r := segR s) (Finset.subset_univ _)) $$ Hr
  iintro Hr
  iapply Hk
  isplitl [Hm]; · iexact Hm
  isplitl [Hr]; · iexact Hr
  isplitl [Hl]; · iexact Hl
  iexact Hf
/-- from the left stream's other neighbour. -/
theorem adds_load_l (s : Fin 4) {hl : lM.view.LoadsAt (segR s)} {α : Type} {Q : α → sProp 𝕄}
    {kk : Vec F S64x512 .bf16 → Prog (TpuEff nD τ sig (Elt F) Λ₀ .tc) α} :
    Adds m ρ c ⊢ iprop((Adds m ρ c -∗ WP c (kk (addP m ρ false 1 c s)) Q) -∗ WP c (.op (.load lM (segR s) hl) kk) Q) := by
  unfold Adds
  iintro ⟨Hm, Hr, Hl, Hf⟩ Hk
  iapply (wp_load_rect 𝒱₀ (c : Thread nD τ) none Set.univ (m := lM) (r := segR s) (Finset.subset_univ _)) $$ Hl
  iintro Hl
  iapply Hk
  isplitl [Hm]; · iexact Hm
  isplitl [Hr]; · iexact Hr
  isplitl [Hl]; · iexact Hl
  iexact Hf

/-! ## The output, piece by piece -/

/-- A piece's place in the order the output is stored. -/
def oIx (d : Bool) (s : Fin 4) : ℕ := 2 * s.val + (if d then 0 else 1)

/-- The first `o` pieces of the output hold what they should. -/
def Filled (o : ℕ) (X : (cc0_stg2_0 : Ref sig .tc).ty.Contents (Elt F)) : Prop :=
  ∀ d s, oIx d s < o → (oM.access (halfR d s)).read (Elt F) X = outP m ρ d c s

theorem halfR_disjoint (d d' : Bool) (s s' : Fin 4) (h : (d, s) ≠ (d', s')) : Disjoint (halfR d s).set (halfR d' s').set := by
  have : ∀ d d' : Bool, ∀ s s' : Fin 4, (d, s) ≠ (d', s') →
      (64 * s.val + 64 ≤ 64 * s'.val ∨ 64 * s'.val + 64 ≤ 64 * s.val) ∨ ((if d then 0 else 512) + 512 ≤ (if d' then 0 else 512) ∨ (if d' then 0 else 512) + 512 ≤ (if d then 0 else 512)) := by decide
  rcases this d d' s s' h with e | e
  · exact Rect.unit_disjoint 0 e
  · exact Rect.unit_disjoint 1 e

/-- Storing the next piece. -/
theorem Filled.step {o : ℕ} {X : (cc0_stg2_0 : Ref sig .tc).ty.Contents (Elt F)} (hX : Filled m ρ c o X) (d : Bool) (s : Fin 4) (ho : oIx d s = o) :
    Filled m ρ c (o + 1) ((oM.access (halfR d s)).write (Elt F) X (outP m ρ d c s) Finset.univ) := by
  intro d' s' h'
  by_cases e : (d', s') = (d, s)
  · obtain ⟨rfl, rfl⟩ := Prod.mk.inj e
    exact View.read_write_univ _ _
  · have hlt : oIx d' s' < o := by
      have inj : ∀ d d' : Bool, ∀ s s' : Fin 4, oIx d s = oIx d' s' → (d, s) = (d', s') := by decide
      have hne : oIx d' s' ≠ o := fun q => e (inj _ _ _ _ (q.trans ho.symm))
      omega
    rw [← hX d' s' hlt]
    refine View.read_slice_write_slice_of_disjoint (v := oM.view) (Val := Elt F) (halfR d' s') (halfR d s) X (outP m ρ d c s) Finset.univ ?_
    show Disjoint (oM.view.slice (halfR d' s')).set (oM.view.slice (halfR d s)).set
    rw [View.set_slice, View.set_slice]
    exact (Finset.disjoint_map _).mpr (halfR_disjoint d' d s' s e)

/-- The output array with `o` pieces stored. -/
def Out (o : ℕ) : sProp 𝕄 := iprop(∃ X, pts c cc0_stg2_0 X ∗ ⌜Filled m ρ c o X⌝)

/-- Adding the device's own block to an arrived sum and storing the rounded result. -/
theorem out_store (o : ℕ) (d : Bool) (s : Fin 4) (ho : oIx d s = o) {hl : fM.view.LoadsAt (halfR d s)} {hl' : oM.view.LoadsAt (halfR d s)}
    {hx : (oM.access (halfR d s)).Stores Finset.univ} {hm} {α : Type} {Q : α → sProp 𝕄} {kk : PUnit → Prog (TpuEff nD τ sig (Elt F) Λ₀ .tc) α} :
    iprop(Adds m ρ c ∗ Out m ρ c o)
      ⊢ iprop((Adds m ρ c ∗ Out m ρ c (o + 1) -∗ WP c (kk ⟨⟩) Q) -∗ WP c (.op (.load fM (halfR d s) hl) fun v => .op (.load oM (halfR d s) hl') fun _ =>
          .op (.store oM (halfR d s) (k0_pay25 (val m ρ d 2 (src d c) s) v) Finset.univ hx hm) kk) Q) := by
  unfold Adds Out
  iintro ⟨⟨Hm, Hr, Hl, Hf⟩, ⟨%X, HO, %hX⟩⟩ Hk
  iapply (wp_load_rect 𝒱₀ (c : Thread nD τ) none Set.univ (m := fM) (r := halfR d s) (Finset.subset_univ _)) $$ Hf
  iintro Hf
  iapply (wp_load_rect 𝒱₀ (c : Thread nD τ) none Set.univ (m := oM) (r := halfR d s) (Finset.subset_univ _)) $$ HO
  iintro HO
  iapply (wp_store 𝒱₀ (c : Thread nD τ) none Set.univ (m := oM) (r := halfR d s) (Mk := Finset.univ) (S := Finset.univ) (Finset.subset_univ _)) $$ HO
  iintro HO
  iapply Hk
  isplitl [Hm Hr Hl Hf]
  · isplitl [Hm]; · iexact Hm
    isplitl [Hr]; · iexact Hr
    isplitl [Hl]; · iexact Hl
    iexact Hf
  iexists _
  isplitl [HO]; · iexact HO
  ipureintro
  exact hX.step m ρ c d s ho

end Rules

end Cert.TwoRings
-- ==== Proof.Pieces.lean ====
module

public import proofs.«01_k».proof.Proof.Stages
public import Idealize.ShloMosaic.Lib.MemrefSat

/-! # A stream's four slots, cut into pieces and put together again -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD) (d : Bool)

/-- Segments of different slots, and different segments of a slot, are apart. -/
theorem slotR_disjoint (t t' : Fin 4 × Fin 4) (h : t ≠ t') : Disjoint (slotR t.1 t.2).set (slotR t'.1 t'.2).set := by
  have : ∀ t t' : Fin 4 × Fin 4, t ≠ t' → (t.1.val + 1 ≤ t'.1.val ∨ t'.1.val + 1 ≤ t.1.val)
      ∨ (64 * t.2.val + 64 ≤ 64 * t'.2.val ∨ 64 * t'.2.val + 64 ≤ 64 * t.2.val) := by decide
  rcases this t t' h with e | e
  · exact Rect.unit_disjoint 0 e
  · exact Rect.unit_disjoint 1 e

/-- The sixteen segments are the whole array. -/
theorem slotR_cover : (Finset.univ : Finset (Fin 4 × Fin 4)).biUnion (fun t => (slotR t.1 t.2).set) = Finset.univ := by
  refine Finset.eq_univ_iff_forall.mpr fun i => Finset.mem_biUnion.mpr ?_
  have h0 : (i 0).val < 4 := (i 0).isLt
  have h1 : (i 1).val < 256 := (i 1).isLt
  have h2 : (i 2).val < 512 := (i 2).isLt
  refine ⟨(⟨(i 0).val, h0⟩, ⟨(i 1).val / 64, by omega⟩), Finset.mem_univ _, Rect.mem_set_unit.mpr fun a => ?_⟩
  fin_cases a
  · show (i 0).val ≤ (i 0).val ∧ (i 0).val < (i 0).val + 1
    omega
  · show 64 * ((i 1).val / 64) ≤ (i 1).val ∧ (i 1).val < 64 * ((i 1).val / 64) + 64
    omega
  · show 0 ≤ (i 2).val ∧ (i 2).val < 0 + 512
    omega

omit [FloatOps F] in
/-- Entailment member by member. -/
theorem family_mono {T : Type} [Fintype T] {Φ Ψ : T → sProp 𝕄} (h : ∀ t, Φ t ⊢ Ψ t) : bigSep Finset.univ Φ ⊢ bigSep Finset.univ Ψ :=
  bigSep_mono fun t _ => h t
omit [FloatOps F] in
/-- A family over the four slots is slot 0's and those of slots 1 to 3. -/
theorem slots_split (Φ : Fin 4 × Fin 4 → sProp 𝕄) : bigSep Finset.univ Φ
    = iprop((bigSep Finset.univ fun s : Fin 4 => Φ (0, s)) ∗ bigSep Finset.univ fun hs : Fin 3 × Fin 4 => Φ (hs.1.succ, hs.2)) := by
  rw [bigSep_univ_prod, bigSep_univ_prod (fun hs : Fin 3 × Fin 4 => Φ (hs.1.succ, hs.2)), Fin.univ_succ, Finset.cons_eq_insert,
    bigSep_insert (by simp), bigSep_map]
  rfl
omit [FloatOps F] in
/-- It is also the first three slots' and slot 3's. -/
theorem slots_split_last (Φ : Fin 4 × Fin 4 → sProp 𝕄) : bigSep Finset.univ Φ
    = iprop((bigSep Finset.univ fun s : Fin 4 => Φ (3, s)) ∗ bigSep Finset.univ fun hs : Fin 3 × Fin 4 => Φ (hs.1.castSucc, hs.2)) := by
  rw [bigSep_univ_prod, bigSep_univ_prod (fun hs : Fin 3 × Fin 4 => Φ (hs.1.castSucc, hs.2)), Fin.univ_castSuccEmb, Finset.cons_eq_insert,
    bigSep_insert (by decide), bigSep_map]
  rfl

/-- A stream's array with slot 0 filled by the device's own product: four pieces to send, and the landing pieces. -/
theorem comm_start (X : S4x256x512.Idx → Elt F .bf16) (hX : ∀ s j, X ((slotR 0 s).emb j) = seg0 (p0 m ρ d c) s j) :
    (owns (c : Thread nD τ) (commM d) fullShare X : sProp 𝕄)
      ⊢ iprop((bigSep Finset.univ fun s : Fin 4 => sendPay m ρ c (d, 0, s)) ∗ barPay d c) := by
  refine (owns_rects (c : Thread nD τ) (commM d) fullShare (fun t : Fin 4 × Fin 4 => slotR t.1 t.2) (fun _ _ => rfl) slotR_disjoint slotR_cover X).trans ?_
  rw [slots_split]
  iintro ⟨H0, H⟩
  isplitl [H0]
  · have h0 : ∀ s : Fin 4, (owns (c : Thread nD τ) ((commM d).slice (slotR 0 s) (fun _ => rfl)) fullShare (fun j => X ((slotR 0 s).emb j)) : sProp 𝕄)
        ⊢ sendPay m ρ c (d, 0, s) := fun s => by
      rw [show (fun j => X ((slotR 0 s).emb j)) = seg0 (p0 m ρ d c) s from funext (hX s)]
      exact .rfl
    iapply (family_mono h0)
    iexact H0
  · unfold barPay
    have h1 : ∀ hs : Fin 3 × Fin 4, (owns (c : Thread nD τ) ((commM d).slice (slotR hs.1.succ hs.2) (fun _ => rfl)) fullShare
        (fun j => X ((slotR hs.1.succ hs.2).emb j)) : sProp 𝕄)
      ⊢ iprop(∃ X, owns (c : Thread nD τ) (pc d hs.1.succ hs.2) fullShare X) := fun hs => by iintro H; iexists _; iexact H
    iapply (family_mono h1)
    iexact H

/-- The pieces back from the transfers and those that arrived last are the whole array again, holding something. -/
theorem comm_end : iprop((bigSep Finset.univ fun hs : Fin 3 × Fin 4 => sendPay m ρ c (d, hs)) ∗ (bigSep Finset.univ fun s : Fin 4 => recvPay m ρ c (d, 2, s)))
    ⊢ (iprop(∃ X, owns (c : Thread nD τ) (commM d) fullShare X) : sProp 𝕄) := by
  have hΦ : iprop((bigSep Finset.univ fun hs : Fin 3 × Fin 4 => sendPay m ρ c (d, hs)) ∗ (bigSep Finset.univ fun s : Fin 4 => recvPay m ρ c (d, 2, s)))
      ⊢ (bigSep Finset.univ fun t : Fin 4 × Fin 4 => ownsSat (c : Thread nD τ) ((commM d).slice (slotR t.1 t.2) (fun _ => rfl)) fullShare (fun _ => True) : sProp 𝕄) := by
    rw [slots_split_last]
    iintro ⟨H, H3⟩
    isplitl [H3]
    · have h3 : ∀ s : Fin 4, recvPay m ρ c (d, 2, s)
          ⊢ (ownsSat (c : Thread nD τ) ((commM d).slice (slotR 3 s) (fun _ => rfl)) fullShare (fun _ => True) : sProp 𝕄) := fun s =>
        ownsSat_intro _ _ _ trivial
      iapply (family_mono h3)
      iexact H3
    · have h4 : ∀ hs : Fin 3 × Fin 4, sendPay m ρ c (d, hs)
          ⊢ (ownsSat (c : Thread nD τ) ((commM d).slice (slotR hs.1.castSucc hs.2) (fun _ => rfl)) fullShare (fun _ => True) : sProp 𝕄) := fun hs =>
        ownsSat_intro _ _ _ trivial
      iapply (family_mono h4)
      iexact H
  refine hΦ.trans ((ownsSat_of_rects (c : Thread nD τ) (commM d) fullShare (fun t : Fin 4 × Fin 4 => slotR t.1 t.2) (fun _ _ => rfl) slotR_disjoint slotR_cover
    (fun _ _ => True)).trans ?_)
  exact ownsSat_any _ _ _

/-! ## The output put together -/

/-- The eight pieces are the whole output. -/
theorem halfR_cover (i : S256x1024.Idx) : ∃ d s j, i = (halfR d s).emb j := by
  have h0 : (i 0).val < 256 := (i 0).isLt
  have h1 : (i 1).val < 1024 := (i 1).isLt
  have : i ∈ (halfR (decide ((i 1).val < 512)) ⟨(i 0).val / 64, by omega⟩).set := Rect.mem_set_unit.mpr fun a => by
    fin_cases a
    · show 64 * ((i 0).val / 64) ≤ (i 0).val ∧ (i 0).val < 64 * ((i 0).val / 64) + 64
      omega
    · show (if decide ((i 1).val < 512) then 0 else 512) ≤ (i 1).val ∧ (i 1).val < (if decide ((i 1).val < 512) then 0 else 512) + 512
      by_cases h : (i 1).val < 512
      · rw [decide_eq_true h, if_pos rfl]; omega
      · rw [decide_eq_false h, if_neg Bool.false_ne_true]; omega
  rw [← Rect.map_emb_univ, Finset.mem_map] at this
  obtain ⟨j, -, hj⟩ := this
  exact ⟨_, _, j, hj.symm⟩

/-- What the body leaves in the output. -/
def outAt : (cc0_stg2_0 : Ref sig .tc).ty.Contents (Elt F) := fun i =>
  outP m ρ (halfR_cover i).choose c (halfR_cover i).choose_spec.choose (halfR_cover i).choose_spec.choose_spec.choose

/-- Piece by piece: the streams' results. -/
theorem outAt_emb (d : Bool) (s : Fin 4) (j : S64x512.Idx) : outAt m ρ c ((halfR d s).emb j) = outP m ρ d c s j := by
  have key : ∀ d' s' j', (halfR d s).emb j = (halfR d' s').emb j' → outP m ρ d' c s' j' = outP m ρ d c s j := by
    intro d' s' j' h
    by_cases e : (d, s) = (d', s')
    · obtain ⟨rfl, rfl⟩ := Prod.mk.inj e
      rw [(halfR d s).emb.injective h]
    · refine absurd (show (halfR d s).emb j ∈ (halfR d' s').set from ?_) (Finset.disjoint_left.mp (halfR_disjoint d d' s s' e) ?_)
      · rw [h, ← Rect.map_emb_univ]; exact Finset.mem_map_of_mem _ (Finset.mem_univ _)
      · rw [← Rect.map_emb_univ]; exact Finset.mem_map_of_mem _ (Finset.mem_univ _)
  exact key _ _ _ (halfR_cover ((halfR d s).emb j)).choose_spec.choose_spec.choose_spec

theorem oIx_lt : ∀ d s, oIx d s < 8 := by decide

/-- With all eight pieces stored, the output is that. -/
theorem filled_all {X : (cc0_stg2_0 : Ref sig .tc).ty.Contents (Elt F)} (h : Filled m ρ c 8 X) : X = outAt m ρ c := by
  funext i
  obtain ⟨d, s, j, rfl⟩ := halfR_cover i
  rw [outAt_emb, ← h d s (oIx_lt d s)]
  rfl

end Cert.TwoRings
-- ==== Proof.Prelude.lean ====
module

public import proofs.«01_k».proof.Proof.Pieces

/-! # The body up to the first arrivals

A device computes what its two streams start with, fills slot 0 of both, hands each neighbour the landing pieces that
neighbour sends into, waits for both its neighbours to have done the same, and issues the first hop. Then it computes the four
products it adds later. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 48) → ℕ)
variable (c : Dev nD)

/-! ## Reading the two operands -/

/-- The two staged operands. -/
def Stg : sProp 𝕄 := iprop(pts c cc0_stg0_0 (xstg m ρ c) ∗ pts c cc0_stg1_0 (wstg m ρ c))

theorem x_load {r : Rect S1024x256} {hl : xM.view.LoadsAt r} {α : Type} {Q : α → sProp 𝕄}
    {kk : Vec F r.shape .bf16 → Prog (TpuEff nD τ sig (Elt F) Λ₀ .tc) α} :
    Stg m ρ c ⊢ iprop((Stg m ρ c -∗ WP c (kk ((xM.access r).read (Elt F) (xstg m ρ c))) Q) -∗ WP c (.op (.load xM r hl) kk) Q) := by
  unfold Stg
  iintro ⟨Hx, Hw⟩ Hk
  iapply (wp_load_rect 𝒱₀ (c : Thread nD τ) none Set.univ (m := xM) (r := r) (Finset.subset_univ _)) $$ Hx
  iintro Hx
  iapply Hk
  isplitl [Hx]; · iexact Hx
  iexact Hw
theorem w_load {r : Rect S256x1024} {hl : wM.view.LoadsAt r} {α : Type} {Q : α → sProp 𝕄}
    {kk : Vec F r.shape .bf16 → Prog (TpuEff nD τ sig (Elt F) Λ₀ .tc) α} :
    Stg m ρ c ⊢ iprop((Stg m ρ c -∗ WP c (kk ((wM.access r).read (Elt F) (wstg m ρ c))) Q) -∗ WP c (.op (.load wM r hl) kk) Q) := by
  unfold Stg
  iintro ⟨Hx, Hw⟩ Hk
  iapply (wp_load_rect 𝒱₀ (c : Thread nD τ) none Set.univ (m := wM) (r := r) (Finset.subset_univ _)) $$ Hw
  iintro Hw
  iapply Hk
  isplitl [Hx]; · iexact Hx
  iexact Hw

/-! ## Filling a whole array, and slot 0 of a stream -/

/-- Filling an array that is held whole, after reading it. -/
theorem fill {sh : Shape} {e : EltTy} (M : Memref sig .tc .vmem sh e) {r : Rect sh} {w : r.shape.Idx → Elt F e} {hl : M.view.LoadsAt r}
    {hx : (M.access r).Stores Finset.univ} {hm} {α : Type} {Q : α → sProp 𝕄} {kk : PUnit → Prog (TpuEff nD τ sig (Elt F) Λ₀ .tc) α} :
    iprop(∃ X : Buf (Elt F) ((M.access r).loc (c : Thread nD τ)), (M.access r).loc (c : Thread nD τ) ↦{fullShare} X)
      ⊢ iprop((∀ X : Buf (Elt F) ((M.access r).loc (c : Thread nD τ)),
          ((M.access r).loc (c : Thread nD τ) ↦{fullShare} ((M.access r).write (Elt F) X w Finset.univ)) -∗ WP c (kk ⟨⟩) Q)
        -∗ WP c (.op (.load M r hl) fun _ => .op (.store M r w Finset.univ hx hm) kk) Q) := by
  iintro ⟨%X, H⟩ Hk
  iapply (wp_load_rect 𝒱₀ (c : Thread nD τ) none Set.univ (m := M) (r := r) (Finset.subset_univ _)) $$ H
  iintro H
  iapply (wp_store 𝒱₀ (c : Thread nD τ) none Set.univ (m := M) (r := r) (Mk := Finset.univ) (S := Finset.univ) (Finset.subset_univ _)) $$ H
  iintro H
  iapply Hk
  iexact H

/-- Slot 0. -/
abbrev slot0R : Rect S4x256x512 := Rect.unit (s := S4x256x512) ![0, 0, 0] S1x256x512.size inb_S4x256x512_S1x256x512_0_0_0

/-- A segment of slot 0 is the segment of the slot. -/
theorem slot0_seg (s : Fin 4) (j : S1x64x512.Idx) : (slotR 0 s).emb j = slot0R.emb ((seg1R s).emb j) := by
  funext a
  fin_cases a
  · exact Fin.ext (show 0 + 1 * (j 0).val = 0 + 1 * (0 + 1 * (j 0).val) by omega)
  · exact Fin.ext (show 64 * s.val + 1 * (j 1).val = 0 + 1 * (64 * s.val + 1 * (j 1).val) by omega)
  · exact Fin.ext (show 0 + 1 * (j 2).val = 0 + 1 * (0 + 1 * (j 2).val) by omega)

/-- Stream `d`'s array with slot 0 filled. -/
def Filled0 (d : Bool) : sProp 𝕄 := iprop(∃ X : S4x256x512.Idx → Elt F .bf16, ⌜∀ s j, X ((slotR 0 s).emb j) = seg0 (p0 m ρ d c) s j⌝
  ∗ owns (c : Thread nD τ) (commM d) fullShare X)

theorem filled_right (X : (cc0_scratch4 : Ref sig .tc).ty.Contents (Elt F)) :
    (pts c cc0_scratch4 (((Memref.whole cc0_scratch4).access slot0R).write (Elt F) X (p0 m ρ true c) Finset.univ) : sProp 𝕄) ⊢ Filled0 m ρ c true := by
  unfold Filled0
  iintro H
  iexists (((Memref.whole cc0_scratch4).access slot0R).write (Elt F) X (p0 m ρ true c) Finset.univ)
  isplitr
  · ipureintro
    intro s j
    rw [slot0_seg]
    exact View.read_slice_write_emb (v := (Memref.whole cc0_scratch4).view) (Val := Elt F) slot0R X (p0 m ρ true c) (Finset.mem_univ _)
  · rw [owns_whole]
    iexact H
theorem filled_left (X : (cc0_scratch5 : Ref sig .tc).ty.Contents (Elt F)) :
    (pts c cc0_scratch5 (((Memref.whole cc0_scratch5).access slot0R).write (Elt F) X (p0 m ρ false c) Finset.univ) : sProp 𝕄) ⊢ Filled0 m ρ c false := by
  unfold Filled0
  iintro H
  iexists (((Memref.whole cc0_scratch5).access slot0R).write (Elt F) X (p0 m ρ false c) Finset.univ)
  isplitr
  · ipureintro
    intro s j
    rw [slot0_seg]
    exact View.read_slice_write_emb (v := (Memref.whole cc0_scratch5).view) (Val := Elt F) slot0R X (p0 m ρ false c) (Finset.mem_univ _)
  · rw [owns_whole]
    iexact H

/-! ## The handshake -/

/-- A transfer's rights before its landing piece is known. -/
def SendPre (k : Key) : sProp 𝕄 := iprop(atPos ER (sendCell c k) 0 ∅ 0 ∗ dutyTok ER (sendCell c k) 0 false ∗ dutyTok ER (recvCell (tgt k.1 c) k) 0 false)

/-- What a device holds at launch. -/
def Before : sProp 𝕄 :=
  iprop(recs m ρ K ∗ levAts L lv ∗ (∃ W, owes (c : Thread nD τ) (O₀ c) W) ∗ atPos ER (barCell c) 0 ∅ 0
    ∗ dutyTok ER (barCell (prv c)) 0 true ∗ dutyTok ER (barCell (nxt c)) 0 false ∗ cred (tallyAt (barCell c) () 2)
    ∗ (bigSep Finset.univ fun k => SendPre c k) ∗ (bigSep Finset.univ fun k => RecvSt m ρ c k 0))

/-- With the neighbours' landing pieces every transfer can be issued. -/
theorem landing_join : iprop((bigSep Finset.univ fun k => SendPre c k) ∗ (bigSep Finset.univ fun b : Bool => barPay b (tgt b c)))
    ⊢ (bigSep Finset.univ fun k => SendSt m ρ c k 0 : sProp 𝕄) := by
  unfold barPay
  rw [← bigSep_univ_prod (fun k : Key => iprop(∃ X, owns (tgt k.1 c : Thread nD τ) (pc k.1 k.2.1.succ k.2.2) fullShare X)), ← bigSep_sep']
  refine family_mono fun k => ?_
  unfold SendPre
  refine (show _ ⊢ iprop(atPos ER (sendCell c k) 0 ∅ 0 ∗ dutyTok ER (sendCell c k) 0 false ∗ dutyTok ER (recvCell (tgt k.1 c) k) 0 false
      ∗ (∃ X, owns (tgt k.1 c : Thread nD τ) (pc k.1 k.2.1.succ k.2.2) fullShare X)) from ?_)
  iintro ⟨⟨Ha, Ht, Hr⟩, HX⟩
  isplitl [Ha]; · iexact Ha
  isplitl [Ht]; · iexact Ht
  isplitl [Hr]; · iexact Hr
  iexact HX

theorem at_start : (St m ρ K c 24 (fun _ => 0) (fun _ => 0) : sProp 𝕄) = At m ρ K c 0 0 0 := by
  unfold At
  rw [show fAt 0 0 = fun _ => 0 from funext fun k => by simp [fAt], show gAt 0 = fun _ => 0 from funext fun k => by simp [gAt]]

omit [FloatOps F] in
/-- Four members. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem zero2 : (![0, 0] : Fin 2 → ℕ) = fun _ => 0 := by decide

/-- A whole half-width array. -/
abbrev allR : Rect S256x512 := Rect.unit (s := S256x512) ![0, 0] S256x512.size inb_S256x512_S256x512_0_0

/-- A whole array filled holds what was stored. -/
theorem filled_m (X : (cc0_scratch0 : Ref sig .tc).ty.Contents (Elt F)) :
    (pts c cc0_scratch0 (((Memref.whole cc0_scratch0).access wAll).write (Elt F) X (pm m ρ c) Finset.univ) : sProp 𝕄) ⊢ pts c cc0_scratch0 (pm m ρ c) :=
  Entails.of_eq (congrArg (fun X => (pts c cc0_scratch0 X : sProp 𝕄)) (Memref.write_access_unit_zero_univ (Elt F) cc0_scratch0 zero2 _ X (pm m ρ c)))
theorem filled_r (X : (cc0_scratch1 : Ref sig .tc).ty.Contents (Elt F)) :
    (pts c cc0_scratch1 (((Memref.whole cc0_scratch1).access allR).write (Elt F) X (pr m ρ c) Finset.univ) : sProp 𝕄) ⊢ pts c cc0_scratch1 (pr m ρ c) :=
  Entails.of_eq (congrArg (fun X => (pts c cc0_scratch1 X : sProp 𝕄)) (Memref.write_access_unit_zero_univ (Elt F) cc0_scratch1 zero2 _ X (pr m ρ c)))
theorem filled_l (X : (cc0_scratch2 : Ref sig .tc).ty.Contents (Elt F)) :
    (pts c cc0_scratch2 (((Memref.whole cc0_scratch2).access allR).write (Elt F) X (pl m ρ c) Finset.univ) : sProp 𝕄) ⊢ pts c cc0_scratch2 (pl m ρ c) :=
  Entails.of_eq (congrArg (fun X => (pts c cc0_scratch2 X : sProp 𝕄)) (Memref.write_access_unit_zero_univ (Elt F) cc0_scratch2 zero2 _ X (pl m ρ c)))
theorem filled_f (X : (cc0_scratch3 : Ref sig .tc).ty.Contents (Elt F)) :
    (pts c cc0_scratch3 (((Memref.whole cc0_scratch3).access wAll).write (Elt F) X (pf m ρ c) Finset.univ) : sProp 𝕄) ⊢ pts c cc0_scratch3 (pf m ρ c) :=
  Entails.of_eq (congrArg (fun X => (pts c cc0_scratch3 X : sProp 𝕄)) (Memref.write_access_unit_zero_univ (Elt F) cc0_scratch3 zero2 _ X (pf m ρ c)))

/-! ## The parts -/

/-- The right stream's slot 0 filled; the left stream's product computed. -/
theorem wp_part1 (Kt : _ → sProp 𝕄) :
    iprop(Stg m ρ c ∗ (∃ X, pts c cc0_scratch4 X) ∗ (∀ v2 v5 v7, (Stg m ρ c ∗ Filled0 m ρ c true) -∗ Kt ⟨c, v2, v5, v7, k0_pay2 ((xM.access (xNxt c)).read (Elt F) (xstg m ρ c)) ((wM.access wHi).read (Elt F) (wstg m ρ c))⟩))
      ⊢ WP c (k0_part1 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  unfold WP; rw [k0_part1_eq_skeleton]; unfold k0_part1_skel
  simp only [Prog.lift, Prog.bind_op, Prog.bind_ret, Prog.pure_eq_ret, wp_deviceId]
  iintro ⟨HG, HX, Hk⟩
  iapply (x_load m ρ c (r := xPrv c)) $$ HG
  iintro HG
  iapply (w_load m ρ c (r := wLo)) $$ HG
  iintro HG
  iapply (fill c (commM true) (r := slot0R) (w := p0 m ρ true c)) $$ HX
  iintro %X HX
  ihave HX := (filled_right m ρ c X) $$ HX
  iapply (x_load m ρ c (r := xNxt c)) $$ HG
  iintro HG
  iapply (w_load m ρ c (r := wHi)) $$ HG
  iintro HG
  iapply (wp_done c)
  iapply Hk
  isplitl [HG]; · iexact HG
  iexact HX

/-- The left stream's slot 0 filled; the handshake; the first transfer. -/
theorem wp_part2 (v v' : BitVec 32) (Kt : PUnit → sProp 𝕄) :
    iprop(Before m ρ K c ∗ Filled0 m ρ c true ∗ (∃ X, pts c cc0_scratch5 X)
      ∗ ((At m ρ K c 1 0 0 ∗ atPos ER (barCell c) 1 ∅ 0 ∗ (sendPay m ρ c (false, 0, 0) ∗ sendPay m ρ c (true, 0, 1) ∗ sendPay m ρ c (false, 0, 1)
        ∗ sendPay m ρ c (true, 0, 2) ∗ sendPay m ρ c (false, 0, 2) ∗ sendPay m ρ c (true, 0, 3) ∗ sendPay m ρ c (false, 0, 3))) -∗ Kt ⟨⟩))
      ⊢ WP c (k0_part2 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v v'
        (k0_pay2 ((xM.access (xNxt c)).read (Elt F) (xstg m ρ c)) ((wM.access wHi).read (Elt F) (wstg m ρ c)))) Kt := by
  rw [k0_part2_eq_skeleton]; unfold k0_part2_skel
  simp only [semSignalWord, semWaitWord, Prog.lift, Prog.bind_op, Prog.bind_ret, Prog.pure_eq_ret]
  unfold Before Filled0
  iintro ⟨⟨#HR, #HL, ⟨%W, HO⟩, Hat, HtP, HtN, Hc, HS, HV⟩, ⟨%X4, %h4, H4⟩, H5, Hk⟩
  iapply (fill c (commM false) (r := slot0R) (w := p0 m ρ false c)) $$ H5
  iintro %X H5
  ihave H5 := (filled_left m ρ c X) $$ H5
  unfold Filled0
  icases H5 with ⟨%X5, %h5, H5⟩
  ihave H4 := (comm_start m ρ c true X4 h4) $$ H4
  icases H4 with ⟨H4, B4⟩
  ihave H5 := (comm_start m ρ c false X5 h5) $$ H5
  icases H5 with ⟨H5, B5⟩
  rw [show (⟨k0_dev1 c, k0_dev1_lt c⟩ : Dev nD) = prv c from Fin.ext (k0_dev1_eq c), show (⟨k0_dev2 c, k0_dev2_lt c⟩ : Dev nD) = nxt c from Fin.ext (k0_dev2_eq c)]
  ihave #HP := (recs_at m ρ K (prv c, none)) $$ HR
  icases HP with ⟨#HIP, #HrP⟩
  ihave #HN := (recs_at m ρ K (nxt c, none)) $$ HR
  icases HN with ⟨#HIN, #HrN⟩
  ihave #HC := (recs_at m ρ K (c, none)) $$ HR
  icases HC with ⟨#HIC, #HrC⟩
  unfold O₀
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP B4]
  · isplitr; · iexact HIP
    isplitl [HO]; · iexact HO
    isplitl [HtP]; · iexact HtP
    isplitl [B4]
    · rw [payload_bar, show tgt true (prv c) = c from tgt_src true c]; iexact B4
    · iexact HrP
  iintro HO
  unfold O₁
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) () (Orem c 24) rfl)
    $$ [HO HtN B5]
  · isplitr; · iexact HIN
    isplitl [HO]; · iexact HO
    isplitl [HtN]; · iexact HtN
    isplitl [B5]
    · rw [payload_bar, show tgt false (nxt c) = c from tgt_src false c]; iexact B5
    · iexact HrN
  iintro HO
  iapply (Rounds.wp_wait_rest_token 𝒱₀ ER (ringRd m ρ) (c : Thread nD τ) none (κ := K (c, none))
      (wpE_semWait_eq 𝒱₀ (c : Thread nD τ) none Set.univ) (Set.mem_univ _) () (O := Orem c 24) (W := W) (R := 0) (m := 0) (T := ∅)
      (by rw [expect_bar]; decide)) $$ [Hc HO Hat]
  · isplitr; · iexact HIC
    isplitl [Hc]; · iexact Hc
    isplitl [HO]; · iexact HO
    isplitr; · iapply (mayWait_bar (F := F) c 24); iexact HL
    iexact Hat
  iintro ⟨HO, Hat, -, Hpay⟩
  ihave Hp := (Entails.of_eq (rest_bar m ρ c)) $$ Hpay
  ihave HS := (landing_join m ρ c) $$ [HS Hp]
  · isplitl [HS]; · iexact HS
    iexact Hp
  ihave HA := (show iprop(recs m ρ K ∗ levAts L lv ∗ (∃ W, owes (c : Thread nD τ) (Orem c 24) W)
      ∗ (bigSep Finset.univ fun k => SendSt m ρ c k 0) ∗ (bigSep Finset.univ fun k => RecvSt m ρ c k 0)) ⊢ At m ρ K c 0 0 0 from
      Entails.of_eq (at_start m ρ K c)) $$ [HO HS HV]
  · isplitr; · iexact HR
    isplitr; · iexact HL
    isplitl [HO]; · iexists _; iexact HO
    isplitl [HS]; · iexact HS
    iexact HV
  ihave H4 := (Entails.of_eq (bigSep_fin4 (fun s : Fin 4 => sendPay m ρ c (true, 0, s)))) $$ H4
  icases H4 with ⟨P0, P2, P4, P6⟩
  ihave H5 := (Entails.of_eq (bigSep_fin4 (fun s : Fin 4 => sendPay m ρ c (false, 0, s)))) $$ H5
  icases H5 with ⟨P1, P3, P5, P7⟩
  iapply (at_issue m ρ K c 0 (by decide) true 0 rfl ⟨k0_dev3 c, k0_dev3_lt c⟩ (Fin.ext (k0_dev3_eq c))) $$ [HA P0]
  · isplitl [HA]; · iexact HA
    iexact P0
  iintro HA
  iapply (wp_done c)
  iapply Hk
  isplitl [HA]; · iexact HA
  isplitl [Hat]; · iexact Hat
  isplitl [P1]; · iexact P1
  isplitl [P2]; · iexact P2
  isplitl [P3]; · iexact P3
  isplitl [P4]; · iexact P4
  isplitl [P5]; · iexact P5
  isplitl [P6]; · iexact P6
  iexact P7

/-- Transfers 1 to 3. -/
theorem wp_part3 (v v' : BitVec 32) (Kt : PUnit → sProp 𝕄) :
    iprop(At m ρ K c 1 0 0 ∗ sendPay m ρ c (false, 0, 0) ∗ sendPay m ρ c (true, 0, 1) ∗ sendPay m ρ c (false, 0, 1) ∗ (At m ρ K c 4 0 0 -∗ Kt ⟨⟩))
      ⊢ WP c (k0_part3 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v v') Kt := by
  rw [k0_part3_eq_skeleton]; unfold k0_part3_skel
  simp only [Prog.lift, Prog.bind_op, Prog.bind_ret, Prog.pure_eq_ret]
  iintro ⟨HA, P1, P2, P3, Hk⟩
  iapply (at_issue m ρ K c 1 (by decide) false 0 rfl ⟨k0_dev4 c, k0_dev4_lt c⟩ (Fin.ext (k0_dev4_eq c))) $$ [HA P1]
  · isplitl [HA]; · iexact HA
    iexact P1
  iintro HA
  iapply (at_issue m ρ K c 2 (by decide) true 1 rfl ⟨k0_dev5 c, k0_dev5_lt c⟩ (Fin.ext (k0_dev5_eq c))) $$ [HA P2]
  · isplitl [HA]; · iexact HA
    iexact P2
  iintro HA
  iapply (at_issue m ρ K c 3 (by decide) false 1 rfl ⟨k0_dev6 c, k0_dev6_lt c⟩ (Fin.ext (k0_dev6_eq c))) $$ [HA P3]
  · isplitl [HA]; · iexact HA
    iexact P3
  iintro HA
  iapply (wp_done c)
  iapply Hk
  iexact HA

/-- Transfers 4 to 5. -/
theorem wp_part4 (v v' : BitVec 32) (Kt : PUnit → sProp 𝕄) :
    iprop(At m ρ K c 4 0 0 ∗ sendPay m ρ c (true, 0, 2) ∗ sendPay m ρ c (false, 0, 2) ∗ (At m ρ K c 6 0 0 -∗ Kt ⟨⟩))
      ⊢ WP c (k0_part4 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v v') Kt := by
  rw [k0_part4_eq_skeleton]; unfold k0_part4_skel
  simp only [Prog.lift, Prog.bind_op, Prog.bind_ret, Prog.pure_eq_ret]
  iintro ⟨HA, P4, P5, Hk⟩
  iapply (at_issue m ρ K c 4 (by decide) true 2 rfl ⟨k0_dev7 c, k0_dev7_lt c⟩ (Fin.ext (k0_dev7_eq c))) $$ [HA P4]
  · isplitl [HA]; · iexact HA
    iexact P4
  iintro HA
  iapply (at_issue m ρ K c 5 (by decide) false 2 rfl ⟨k0_dev8 c, k0_dev8_lt c⟩ (Fin.ext (k0_dev8_eq c))) $$ [HA P5]
  · isplitl [HA]; · iexact HA
    iexact P5
  iintro HA
  iapply (wp_done c)
  iapply Hk
  iexact HA

/-- Transfers 6 and 7; the product of the rows two devices away. -/
theorem wp_part5 (v v' : BitVec 32) (Kt : FVec F S256x256 .bf16 → sProp 𝕄) :
    iprop(At m ρ K c 6 0 0 ∗ sendPay m ρ c (true, 0, 3) ∗ sendPay m ρ c (false, 0, 3) ∗ Stg m ρ c ∗ (∃ X, pts c cc0_scratch0 X)
      ∗ ((At m ρ K c 8 0 0 ∗ Stg m ρ c ∗ pts c cc0_scratch0 (pm m ρ c)) -∗ Kt (k0_pay5 ((xM.access (xNxt c)).read (Elt F) (xstg m ρ c)))))
      ⊢ WP c (k0_part5 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v v') Kt := by
  rw [k0_part5_eq_skeleton]; unfold k0_part5_skel
  simp only [Prog.lift, Prog.bind_op, Prog.bind_ret, Prog.pure_eq_ret]
  iintro ⟨HA, P6, P7, HG, Hm, Hk⟩
  iapply (at_issue m ρ K c 6 (by decide) true 3 rfl ⟨k0_dev9 c, k0_dev9_lt c⟩ (Fin.ext (k0_dev9_eq c))) $$ [HA P6]
  · isplitl [HA]; · iexact HA
    iexact P6
  iintro HA
  iapply (at_issue m ρ K c 7 (by decide) false 3 rfl ⟨k0_dev10 c, k0_dev10_lt c⟩ (Fin.ext (k0_dev10_eq c))) $$ [HA P7]
  · isplitl [HA]; · iexact HA
    iexact P7
  iintro HA
  iapply (x_load m ρ c (r := xOpp c)) $$ HG
  iintro HG
  iapply (w_load m ρ c (r := wAll)) $$ HG
  iintro HG
  iapply (fill c mM (r := wAll) (w := pm m ρ c)) $$ Hm
  iintro %X Hm
  ihave Hm := (filled_m m ρ c X) $$ Hm
  iapply (x_load m ρ c (r := xNxt c)) $$ HG
  iintro HG
  iapply (wp_done c)
  iapply Hk
  isplitl [HA]; · iexact HA
  isplitl [HG]; · iexact HG
  iexact Hm

/-- The other three products. -/
theorem wp_part6 (v : BitVec 32) (Kt : Vec F S64x512 .bf16 → sProp 𝕄) :
    iprop(Stg m ρ c ∗ pts c cc0_scratch0 (pm m ρ c) ∗ (∃ X, pts c cc0_scratch1 X) ∗ (∃ X, pts c cc0_scratch2 X) ∗ (∃ X, pts c cc0_scratch3 X)
      ∗ ((Stg m ρ c ∗ Adds m ρ c) -∗ Kt (addP m ρ true 0 c 0)))
      ⊢ WP c (k0_part6 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (k0_pay5 ((xM.access (xNxt c)).read (Elt F) (xstg m ρ c)))) Kt := by
  rw [k0_part6_eq_skeleton]; unfold k0_part6_skel
  simp only [Prog.lift, Prog.bind_op, Prog.bind_ret, Prog.pure_eq_ret]
  iintro ⟨HG, Hm, Hr, Hl, Hf, Hk⟩
  iapply (w_load m ρ c (r := wLo)) $$ HG
  iintro HG
  iapply (fill c rM (r := allR) (w := pr m ρ c)) $$ Hr
  iintro %X Hr
  ihave Hr := (filled_r m ρ c X) $$ Hr
  iapply (x_load m ρ c (r := xPrv c)) $$ HG
  iintro HG
  iapply (w_load m ρ c (r := wHi)) $$ HG
  iintro HG
  iapply (fill c lM (r := allR) (w := pl m ρ c)) $$ Hl
  iintro %X Hl
  ihave Hl := (filled_l m ρ c X) $$ Hl
  iapply (x_load m ρ c (r := xOwn c)) $$ HG
  iintro HG
  iapply (w_load m ρ c (r := wAll)) $$ HG
  iintro HG
  iapply (fill c fM (r := wAll) (w := pf m ρ c)) $$ Hf
  iintro %X Hf
  ihave Hf := (filled_f m ρ c X) $$ Hf
  ihave HD := (show iprop(pts c cc0_scratch0 (pm m ρ c) ∗ pts c cc0_scratch1 (pr m ρ c) ∗ pts c cc0_scratch2 (pl m ρ c) ∗ pts c cc0_scratch3 (pf m ρ c)) ⊢ Adds m ρ c from .rfl) $$ [Hm Hr Hl Hf]
  · isplitl [Hm]; · iexact Hm
    isplitl [Hr]; · iexact Hr
    isplitl [Hl]; · iexact Hl
    iexact Hf
  iapply (adds_load_m m ρ c true 0) $$ HD
  iintro HD
  iapply (wp_done c)
  iapply Hk
  isplitl [HG]; · iexact HG
  iexact HD

end Cert.TwoRings
-- ==== Proof.Hops.lean ====
module

public import proofs.«01_k».proof.Proof.Stages

/-! # The middle hops

Each part of the body from the first arrival to the last transfer issued handles one segment of one stream: it waits for the
segment, adds its own product in place and passes the sum on. The statement gives the change of the three counts and the
value handed to the next part. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 48) → ℕ)
variable (c : Dev nD)

/-- The right stream's first segment, hop 1 to hop 2. -/
theorem wp_part7 (v : BitVec 32) (Kt : Vec F S64x512 .bf16 → sProp 𝕄) :
    iprop(At m ρ K c 8 0 0 ∗ Adds m ρ c ∗ ((At m ρ K c 9 1 0 ∗ Adds m ρ c) -∗ Kt (addP m ρ false 0 c 0)))
      ⊢ WP c (k0_part7 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 0 c 0)) Kt := by
  rw [k0_part7_eq_skeleton]; unfold k0_part7_skel
  simp only [Prog.lift, Prog.bind_op, Prog.bind_ret, Prog.pure_eq_ret]
  iintro ⟨HA, HD, Hk⟩
  iapply (adds_load_m m ρ c false 0) $$ HD
  iintro HD
  iapply (at_hop m ρ K c 0 (by decide) true 0 0 rfl rfl ⟨k0_dev11 c, k0_dev11_lt c⟩ (Fin.ext (k0_dev11_eq c))) $$ HA
  iintro HA
  iapply (wp_done c)
  iapply Hk
  isplitl [HA]; · iexact HA
  iexact HD

/-- The left stream's first segment, hop 1 to hop 2. -/
theorem wp_part8 (v : BitVec 32) (Kt : Vec F S64x512 .bf16 → sProp 𝕄) :
    iprop(At m ρ K c 9 1 0 ∗ Adds m ρ c ∗ ((At m ρ K c 10 2 0 ∗ Adds m ρ c) -∗ Kt (addP m ρ true 0 c 1)))
      ⊢ WP c (k0_part8 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 0 c 0)) Kt := by
  rw [k0_part8_eq_skeleton]; unfold k0_part8_skel
  simp only [Prog.lift, Prog.bind_op, Prog.bind_ret, Prog.pure_eq_ret]
  iintro ⟨HA, HD, Hk⟩
  iapply (at_hop m ρ K c 1 (by decide) false 0 0 rfl rfl ⟨k0_dev12 c, k0_dev12_lt c⟩ (Fin.ext (k0_dev12_eq c))) $$ HA
  iintro HA
  iapply (adds_load_m m ρ c true 1) $$ HD
  iintro HD
  iapply (wp_done c)
  iapply Hk
  isplitl [HA]; · iexact HA
  iexact HD

/-- The right stream's second segment, hop 1 to hop 2. -/
theorem wp_part9 (v : BitVec 32) (Kt : Vec F S64x512 .bf16 → sProp 𝕄) :
    iprop(At m ρ K c 10 2 0 ∗ Adds m ρ c ∗ ((At m ρ K c 11 3 0 ∗ Adds m ρ c) -∗ Kt (addP m ρ false 0 c 1)))
      ⊢ WP c (k0_part9 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 0 c 1)) Kt := by
  rw [k0_part9_eq_skeleton]; unfold k0_part9_skel
  simp only [Prog.lift, Prog.bind_op, Prog.bind_ret, Prog.pure_eq_ret]
  iintro ⟨HA, HD, Hk⟩
  iapply (adds_load_m m ρ c false 1) $$ HD
  iintro HD
  iapply (at_hop m ρ K c 2 (by decide) true 0 1 rfl rfl ⟨k0_dev13 c, k0_dev13_lt c⟩ (Fin.ext (k0_dev13_eq c))) $$ HA
  iintro HA
  iapply (wp_done c)
  iapply Hk
  isplitl [HA]; · iexact HA
  iexact HD

/-- The left stream's second segment, hop 1 to hop 2. -/
theorem wp_part10 (v : BitVec 32) (Kt : Vec F S64x512 .bf16 → sProp 𝕄) :
    iprop(At m ρ K c 11 3 0 ∗ Adds m ρ c ∗ ((At m ρ K c 12 4 0 ∗ Adds m ρ c) -∗ Kt (addP m ρ true 0 c 2)))
      ⊢ WP c (k0_part10 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 0 c 1)) Kt := by
  rw [k0_part10_eq_skeleton]; unfold k0_part10_skel
  simp only [Prog.lift, Prog.bind_op, Prog.bind_ret, Prog.pure_eq_ret]
  iintro ⟨HA, HD, Hk⟩
  iapply (at_hop m ρ K c 3 (by decide) false 0 1 rfl rfl ⟨k0_dev14 c, k0_dev14_lt c⟩ (Fin.ext (k0_dev14_eq c))) $$ HA
  iintro HA
  iapply (adds_load_m m ρ c true 2) $$ HD
  iintro HD
  iapply (wp_done c)
  iapply Hk
  isplitl [HA]; · iexact HA
  iexact HD

/-- The right stream's third segment, hop 1 to hop 2. -/
theorem wp_part11 (v : BitVec 32) (Kt : Vec F S64x512 .bf16 → sProp 𝕄) :
    iprop(At m ρ K c 12 4 0 ∗ Adds m ρ c ∗ ((At m ρ K c 13 5 0 ∗ Adds m ρ c) -∗ Kt (addP m ρ false 0 c 2)))
      ⊢ WP c (k0_part11 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 0 c 2)) Kt := by
  rw [k0_part11_eq_skeleton]; unfold k0_part11_skel
  simp only [Prog.lift, Prog.bind_op, Prog.bind_ret, Prog.pure_eq_ret]
  iintro ⟨HA, HD, Hk⟩
  iapply (adds_load_m m ρ c false 2) $$ HD
  iintro HD
  iapply (at_hop m ρ K c 4 (by decide) true 0 2 rfl rfl ⟨k0_dev15 c, k0_dev15_lt c⟩ (Fin.ext (k0_dev15_eq c))) $$ HA
  iintro HA
  iapply (wp_done c)
  iapply Hk
  isplitl [HA]; · iexact HA
  iexact HD

/-- The left stream's third segment, hop 1 to hop 2. -/
theorem wp_part12 (v : BitVec 32) (Kt : Vec F S64x512 .bf16 → sProp 𝕄) :
    iprop(At m ρ K c 13 5 0 ∗ Adds m ρ c ∗ ((At m ρ K c 14 6 0 ∗ Adds m ρ c) -∗ Kt (addP m ρ true 0 c 3)))
      ⊢ WP c (k0_part12 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 0 c 2)) Kt := by
  rw [k0_part12_eq_skeleton]; unfold k0_part12_skel
  simp only [Prog.lift, Prog.bind_op, Prog.bind_ret, Prog.pure_eq_ret]
  iintro ⟨HA, HD, Hk⟩
  iapply (at_hop m ρ K c 5 (by decide) false 0 2 rfl rfl ⟨k0_dev16 c, k0_dev16_lt c⟩ (Fin.ext (k0_dev16_eq c))) $$ HA
  iintro HA
  iapply (adds_load_m m ρ c true 3) $$ HD
  iintro HD
  iapply (wp_done c)
  iapply Hk
  isplitl [HA]; · iexact HA
  iexact HD

/-- The right stream's fourth segment, hop 1 to hop 2. -/
theorem wp_part13 (v : BitVec 32) (Kt : Vec F S64x512 .bf16 → sProp 𝕄) :
    iprop(At m ρ K c 14 6 0 ∗ Adds m ρ c ∗ ((At m ρ K c 15 7 0 ∗ Adds m ρ c) -∗ Kt (addP m ρ false 0 c 3)))
      ⊢ WP c (k0_part13 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 0 c 3)) Kt := by
  rw [k0_part13_eq_skeleton]; unfold k0_part13_skel
  simp only [Prog.lift, Prog.bind_op, Prog.bind_ret, Prog.pure_eq_ret]
  iintro ⟨HA, HD, Hk⟩
  iapply (adds_load_m m ρ c false 3) $$ HD
  iintro HD
  iapply (at_hop m ρ K c 6 (by decide) true 0 3 rfl rfl ⟨k0_dev17 c, k0_dev17_lt c⟩ (Fin.ext (k0_dev17_eq c))) $$ HA
  iintro HA
  iapply (wp_done c)
  iapply Hk
  isplitl [HA]; · iexact HA
  iexact HD

/-- The left stream's fourth segment, hop 1 to hop 2. -/
theorem wp_part14 (v : BitVec 32) (Kt : Vec F S64x512 .bf16 → sProp 𝕄) :
    iprop(At m ρ K c 15 7 0 ∗ Adds m ρ c ∗ ((At m ρ K c 16 8 0 ∗ Adds m ρ c) -∗ Kt (addP m ρ true 1 c 0)))
      ⊢ WP c (k0_part14 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 0 c 3)) Kt := by
  rw [k0_part14_eq_skeleton]; unfold k0_part14_skel
  simp only [Prog.lift, Prog.bind_op, Prog.bind_ret, Prog.pure_eq_ret]
  iintro ⟨HA, HD, Hk⟩
  iapply (at_hop m ρ K c 7 (by decide) false 0 3 rfl rfl ⟨k0_dev18 c, k0_dev18_lt c⟩ (Fin.ext (k0_dev18_eq c))) $$ HA
  iintro HA
  iapply (adds_load_r m ρ c 0) $$ HD
  iintro HD
  iapply (wp_done c)
  iapply Hk
  isplitl [HA]; · iexact HA
  iexact HD

/-- The right stream's first segment, hop 2 to hop 3. -/
theorem wp_part15 (v : BitVec 32) (Kt : Vec F S64x512 .bf16 → sProp 𝕄) :
    iprop(At m ρ K c 16 8 0 ∗ Adds m ρ c ∗ ((At m ρ K c 17 9 0 ∗ Adds m ρ c) -∗ Kt (addP m ρ false 1 c 0)))
      ⊢ WP c (k0_part15 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 1 c 0)) Kt := by
  rw [k0_part15_eq_skeleton]; unfold k0_part15_skel
  simp only [Prog.lift, Prog.bind_op, Prog.bind_ret, Prog.pure_eq_ret]
  iintro ⟨HA, HD, Hk⟩
  iapply (adds_load_l m ρ c 0) $$ HD
  iintro HD
  iapply (at_hop m ρ K c 8 (by decide) true 1 0 rfl rfl ⟨k0_dev19 c, k0_dev19_lt c⟩ (Fin.ext (k0_dev19_eq c))) $$ HA
  iintro HA
  iapply (wp_done c)
  iapply Hk
  isplitl [HA]; · iexact HA
  iexact HD

/-- The left stream's first segment, hop 2 to hop 3. -/
theorem wp_part16 (v : BitVec 32) (Kt : Vec F S64x512 .bf16 → sProp 𝕄) :
    iprop(At m ρ K c 17 9 0 ∗ Adds m ρ c ∗ ((At m ρ K c 18 10 0 ∗ Adds m ρ c) -∗ Kt (addP m ρ true 1 c 1)))
      ⊢ WP c (k0_part16 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 1 c 0)) Kt := by
  rw [k0_part16_eq_skeleton]; unfold k0_part16_skel
  simp only [Prog.lift, Prog.bind_op, Prog.bind_ret, Prog.pure_eq_ret]
  iintro ⟨HA, HD, Hk⟩
  iapply (at_hop m ρ K c 9 (by decide) false 1 0 rfl rfl ⟨k0_dev20 c, k0_dev20_lt c⟩ (Fin.ext (k0_dev20_eq c))) $$ HA
  iintro HA
  iapply (adds_load_r m ρ c 1) $$ HD
  iintro HD
  iapply (wp_done c)
  iapply Hk
  isplitl [HA]; · iexact HA
  iexact HD

/-- The right stream's second segment, hop 2 to hop 3. -/
theorem wp_part17 (v : BitVec 32) (Kt : Vec F S64x512 .bf16 → sProp 𝕄) :
    iprop(At m ρ K c 18 10 0 ∗ Adds m ρ c ∗ ((At m ρ K c 19 11 0 ∗ Adds m ρ c) -∗ Kt (addP m ρ false 1 c 1)))
      ⊢ WP c (k0_part17 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 1 c 1)) Kt := by
  rw [k0_part17_eq_skeleton]; unfold k0_part17_skel
  simp only [Prog.lift, Prog.bind_op, Prog.bind_ret, Prog.pure_eq_ret]
  iintro ⟨HA, HD, Hk⟩
  iapply (adds_load_l m ρ c 1) $$ HD
  iintro HD
  iapply (at_hop m ρ K c 10 (by decide) true 1 1 rfl rfl ⟨k0_dev21 c, k0_dev21_lt c⟩ (Fin.ext (k0_dev21_eq c))) $$ HA
  iintro HA
  iapply (wp_done c)
  iapply Hk
  isplitl [HA]; · iexact HA
  iexact HD

/-- The left stream's second segment, hop 2 to hop 3. -/
theorem wp_part18 (v : BitVec 32) (Kt : Vec F S64x512 .bf16 → sProp 𝕄) :
    iprop(At m ρ K c 19 11 0 ∗ Adds m ρ c ∗ ((At m ρ K c 20 12 0 ∗ Adds m ρ c) -∗ Kt (addP m ρ true 1 c 2)))
      ⊢ WP c (k0_part18 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 1 c 1)) Kt := by
  rw [k0_part18_eq_skeleton]; unfold k0_part18_skel
  simp only [Prog.lift, Prog.bind_op, Prog.bind_ret, Prog.pure_eq_ret]
  iintro ⟨HA, HD, Hk⟩
  iapply (at_hop m ρ K c 11 (by decide) false 1 1 rfl rfl ⟨k0_dev22 c, k0_dev22_lt c⟩ (Fin.ext (k0_dev22_eq c))) $$ HA
  iintro HA
  iapply (adds_load_r m ρ c 2) $$ HD
  iintro HD
  iapply (wp_done c)
  iapply Hk
  isplitl [HA]; · iexact HA
  iexact HD

/-- The right stream's third segment, hop 2 to hop 3. -/
theorem wp_part19 (v : BitVec 32) (Kt : Vec F S64x512 .bf16 → sProp 𝕄) :
    iprop(At m ρ K c 20 12 0 ∗ Adds m ρ c ∗ ((At m ρ K c 21 13 0 ∗ Adds m ρ c) -∗ Kt (addP m ρ false 1 c 2)))
      ⊢ WP c (k0_part19 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 1 c 2)) Kt := by
  rw [k0_part19_eq_skeleton]; unfold k0_part19_skel
  simp only [Prog.lift, Prog.bind_op, Prog.bind_ret, Prog.pure_eq_ret]
  iintro ⟨HA, HD, Hk⟩
  iapply (adds_load_l m ρ c 2) $$ HD
  iintro HD
  iapply (at_hop m ρ K c 12 (by decide) true 1 2 rfl rfl ⟨k0_dev23 c, k0_dev23_lt c⟩ (Fin.ext (k0_dev23_eq c))) $$ HA
  iintro HA
  iapply (wp_done c)
  iapply Hk
  isplitl [HA]; · iexact HA
  iexact HD

/-- The left stream's third segment, hop 2 to hop 3. -/
theorem wp_part20 (v : BitVec 32) (Kt : Vec F S64x512 .bf16 → sProp 𝕄) :
    iprop(At m ρ K c 21 13 0 ∗ Adds m ρ c ∗ ((At m ρ K c 22 14 0 ∗ Adds m ρ c) -∗ Kt (addP m ρ true 1 c 3)))
      ⊢ WP c (k0_part20 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 1 c 2)) Kt := by
  rw [k0_part20_eq_skeleton]; unfold k0_part20_skel
  simp only [Prog.lift, Prog.bind_op, Prog.bind_ret, Prog.pure_eq_ret]
  iintro ⟨HA, HD, Hk⟩
  iapply (at_hop m ρ K c 13 (by decide) false 1 2 rfl rfl ⟨k0_dev24 c, k0_dev24_lt c⟩ (Fin.ext (k0_dev24_eq c))) $$ HA
  iintro HA
  iapply (adds_load_r m ρ c 3) $$ HD
  iintro HD
  iapply (wp_done c)
  iapply Hk
  isplitl [HA]; · iexact HA
  iexact HD

/-- The right stream's fourth segment, hop 2 to hop 3. -/
theorem wp_part21 (v : BitVec 32) (Kt : Vec F S64x512 .bf16 → sProp 𝕄) :
    iprop(At m ρ K c 22 14 0 ∗ Adds m ρ c ∗ ((At m ρ K c 23 15 0 ∗ Adds m ρ c) -∗ Kt (addP m ρ false 1 c 3)))
      ⊢ WP c (k0_part21 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ true 1 c 3)) Kt := by
  rw [k0_part21_eq_skeleton]; unfold k0_part21_skel
  simp only [Prog.lift, Prog.bind_op, Prog.bind_ret, Prog.pure_eq_ret]
  iintro ⟨HA, HD, Hk⟩
  iapply (adds_load_l m ρ c 3) $$ HD
  iintro HD
  iapply (at_hop m ρ K c 14 (by decide) true 1 3 rfl rfl ⟨k0_dev25 c, k0_dev25_lt c⟩ (Fin.ext (k0_dev25_eq c))) $$ HA
  iintro HA
  iapply (wp_done c)
  iapply Hk
  isplitl [HA]; · iexact HA
  iexact HD

/-- The left stream's fourth segment, hop 2 to hop 3. -/
theorem wp_part22 (v : BitVec 32) (Kt : PUnit → sProp 𝕄) :
    iprop(At m ρ K c 23 15 0 ∗ Adds m ρ c ∗ ((At m ρ K c 24 16 0 ∗ Adds m ρ c) -∗ Kt ⟨⟩))
      ⊢ WP c (k0_part22 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 c v (addP m ρ false 1 c 3)) Kt := by
  rw [k0_part22_eq_skeleton]; unfold k0_part22_skel
  simp only [Prog.lift, Prog.bind_op, Prog.bind_ret, Prog.pure_eq_ret]
  iintro ⟨HA, HD, Hk⟩
  iapply (at_hop m ρ K c 15 (by decide) false 1 3 rfl rfl ⟨k0_dev26 c, k0_dev26_lt c⟩ (Fin.ext (k0_dev26_eq c))) $$ HA
  iintro HA
  iapply (wp_done c)
  iapply Hk
  isplitl [HA]; · iexact HA
  iexact HD

end Cert.TwoRings
-- ==== Proof.Results.lean ====
module

public import proofs.«01_k».proof.Proof.Stages

/-! # The results and the last waits

The parts of the body that take the last hop's arrivals and store the output, and those that wait for the transfers to be
gone. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 48) → ℕ)
variable (c : Dev nD)

/-- Arrivals 16 to 17; pieces 0 to 0 of the output. -/
theorem wp_part23 (v v' : BitVec 32) (Kt : FVec F S64x512 .f32 → sProp 𝕄) :
    iprop(At m ρ K c 24 16 0 ∗ (Adds m ρ c ∗ Out m ρ c 0) ∗ ((At m ρ K c 24 18 0 ∗ (Adds m ρ c ∗ Out m ρ c 1)) -∗ Kt (k0_pay26 (val m ρ false 2 (src false c) 0))))
      ⊢ WP c (k0_part23 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 v v') Kt := by
  rw [k0_part23_eq_skeleton]; unfold k0_part23_skel
  simp only [Prog.lift, Prog.bind_op, Prog.bind_ret, Prog.pure_eq_ret]
  iintro ⟨HA, HD, Hk⟩
  iapply (at_last m ρ K c 0 (by decide) true 0 rfl) $$ HA
  iintro HA
  iapply (out_store m ρ c 0 true 0 rfl) $$ HD
  iintro HD
  iapply (at_last m ρ K c 1 (by decide) false 0 rfl) $$ HA
  iintro HA
  iapply (wp_done c)
  iapply Hk
  isplitl [HA]; · iexact HA
  iexact HD

/-- Arrivals 18 to 18; pieces 1 to 2 of the output. -/
theorem wp_part24 (v v' : BitVec 32) (Kt : PUnit → sProp 𝕄) :
    iprop(At m ρ K c 24 18 0 ∗ (Adds m ρ c ∗ Out m ρ c 1) ∗ ((At m ρ K c 24 19 0 ∗ (Adds m ρ c ∗ Out m ρ c 3)) -∗ Kt ⟨⟩))
      ⊢ WP c (k0_part24 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 v v' (k0_pay26 (val m ρ false 2 (src false c) 0))) Kt := by
  rw [k0_part24_eq_skeleton]; unfold k0_part24_skel
  simp only [Prog.lift, Prog.bind_op, Prog.bind_ret, Prog.pure_eq_ret]
  iintro ⟨HA, HD, Hk⟩
  iapply (out_store m ρ c 1 false 0 rfl) $$ HD
  iintro HD
  iapply (at_last m ρ K c 2 (by decide) true 1 rfl) $$ HA
  iintro HA
  iapply (out_store m ρ c 2 true 1 rfl) $$ HD
  iintro HD
  iapply (wp_done c)
  iapply Hk
  isplitl [HA]; · iexact HA
  iexact HD

/-- Arrivals 19 to 20; pieces 3 to 4 of the output. -/
theorem wp_part25 (v : BitVec 32) (Kt : PUnit → sProp 𝕄) :
    iprop(At m ρ K c 24 19 0 ∗ (Adds m ρ c ∗ Out m ρ c 3) ∗ ((At m ρ K c 24 21 0 ∗ (Adds m ρ c ∗ Out m ρ c 5)) -∗ Kt ⟨⟩))
      ⊢ WP c (k0_part25 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 v) Kt := by
  rw [k0_part25_eq_skeleton]; unfold k0_part25_skel
  simp only [Prog.lift, Prog.bind_op, Prog.bind_ret, Prog.pure_eq_ret]
  iintro ⟨HA, HD, Hk⟩
  iapply (at_last m ρ K c 3 (by decide) false 1 rfl) $$ HA
  iintro HA
  iapply (out_store m ρ c 3 false 1 rfl) $$ HD
  iintro HD
  iapply (at_last m ρ K c 4 (by decide) true 2 rfl) $$ HA
  iintro HA
  iapply (out_store m ρ c 4 true 2 rfl) $$ HD
  iintro HD
  iapply (wp_done c)
  iapply Hk
  isplitl [HA]; · iexact HA
  iexact HD

/-- Arrivals 21 to 22; pieces 5 to 5 of the output. -/
theorem wp_part26 (v v' : BitVec 32) (Kt : FVec F S64x512 .f32 → sProp 𝕄) :
    iprop(At m ρ K c 24 21 0 ∗ (Adds m ρ c ∗ Out m ρ c 5) ∗ ((At m ρ K c 24 23 0 ∗ (Adds m ρ c ∗ Out m ρ c 6)) -∗ Kt (k0_pay32 (val m ρ true 2 (src true c) 3))))
      ⊢ WP c (k0_part26 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 v v') Kt := by
  rw [k0_part26_eq_skeleton]; unfold k0_part26_skel
  simp only [Prog.lift, Prog.bind_op, Prog.bind_ret, Prog.pure_eq_ret]
  iintro ⟨HA, HD, Hk⟩
  iapply (at_last m ρ K c 5 (by decide) false 2 rfl) $$ HA
  iintro HA
  iapply (out_store m ρ c 5 false 2 rfl) $$ HD
  iintro HD
  iapply (at_last m ρ K c 6 (by decide) true 3 rfl) $$ HA
  iintro HA
  iapply (wp_done c)
  iapply Hk
  isplitl [HA]; · iexact HA
  iexact HD

/-- Arrivals 23 to 23; pieces 6 to 7 of the output. -/
theorem wp_part27 (v : BitVec 32) (Kt : PUnit → sProp 𝕄) :
    iprop(At m ρ K c 24 23 0 ∗ (Adds m ρ c ∗ Out m ρ c 6) ∗ ((At m ρ K c 24 24 0 ∗ (Adds m ρ c ∗ Out m ρ c 8)) -∗ Kt ⟨⟩))
      ⊢ WP c (k0_part27 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9 v (k0_pay32 (val m ρ true 2 (src true c) 3))) Kt := by
  rw [k0_part27_eq_skeleton]; unfold k0_part27_skel
  simp only [Prog.lift, Prog.bind_op, Prog.bind_ret, Prog.pure_eq_ret]
  iintro ⟨HA, HD, Hk⟩
  iapply (out_store m ρ c 6 true 3 rfl) $$ HD
  iintro HD
  iapply (at_last m ρ K c 7 (by decide) false 3 rfl) $$ HA
  iintro HA
  iapply (out_store m ρ c 7 false 3 rfl) $$ HD
  iintro HD
  iapply (wp_done c)
  iapply Hk
  isplitl [HA]; · iexact HA
  iexact HD

/-- Transfers 0 to 3 are gone. -/
theorem wp_part28 (Kt : PUnit → sProp 𝕄) :
    iprop(At m ρ K c 24 24 0 ∗ (At m ρ K c 24 24 4 -∗ Kt ⟨⟩))
      ⊢ WP c (k0_part28 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [k0_part28_eq_skeleton]; unfold k0_part28_skel
  simp only [Prog.lift, Prog.bind_op, Prog.bind_ret, Prog.pure_eq_ret]
  iintro ⟨HA, Hk⟩
  iapply (at_gone m ρ K c 0 (by decide) true 0 0 rfl) $$ HA
  iintro HA
  iapply (at_gone m ρ K c 1 (by decide) false 0 0 rfl) $$ HA
  iintro HA
  iapply (at_gone m ρ K c 2 (by decide) true 0 1 rfl) $$ HA
  iintro HA
  iapply (at_gone m ρ K c 3 (by decide) false 0 1 rfl) $$ HA
  iintro HA
  iapply (wp_done c)
  iapply Hk
  iexact HA

/-- Transfers 4 to 6 are gone. -/
theorem wp_part29 (Kt : PUnit → sProp 𝕄) :
    iprop(At m ρ K c 24 24 4 ∗ (At m ρ K c 24 24 7 -∗ Kt ⟨⟩))
      ⊢ WP c (k0_part29 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [k0_part29_eq_skeleton]; unfold k0_part29_skel
  simp only [Prog.lift, Prog.bind_op, Prog.bind_ret, Prog.pure_eq_ret]
  iintro ⟨HA, Hk⟩
  iapply (at_gone m ρ K c 4 (by decide) true 0 2 rfl) $$ HA
  iintro HA
  iapply (at_gone m ρ K c 5 (by decide) false 0 2 rfl) $$ HA
  iintro HA
  iapply (at_gone m ρ K c 6 (by decide) true 0 3 rfl) $$ HA
  iintro HA
  iapply (wp_done c)
  iapply Hk
  iexact HA

/-- Transfers 7 to 9 are gone. -/
theorem wp_part30 (Kt : PUnit → sProp 𝕄) :
    iprop(At m ρ K c 24 24 7 ∗ (At m ρ K c 24 24 10 -∗ Kt ⟨⟩))
      ⊢ WP c (k0_part30 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [k0_part30_eq_skeleton]; unfold k0_part30_skel
  simp only [Prog.lift, Prog.bind_op, Prog.bind_ret, Prog.pure_eq_ret]
  iintro ⟨HA, Hk⟩
  iapply (at_gone m ρ K c 7 (by decide) false 0 3 rfl) $$ HA
  iintro HA
  iapply (at_gone m ρ K c 8 (by decide) true 1 0 rfl) $$ HA
  iintro HA
  iapply (at_gone m ρ K c 9 (by decide) false 1 0 rfl) $$ HA
  iintro HA
  iapply (wp_done c)
  iapply Hk
  iexact HA

/-- Transfers 10 to 13 are gone. -/
theorem wp_part31 (Kt : PUnit → sProp 𝕄) :
    iprop(At m ρ K c 24 24 10 ∗ (At m ρ K c 24 24 14 -∗ Kt ⟨⟩))
      ⊢ WP c (k0_part31 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [k0_part31_eq_skeleton]; unfold k0_part31_skel
  simp only [Prog.lift, Prog.bind_op, Prog.bind_ret, Prog.pure_eq_ret]
  iintro ⟨HA, Hk⟩
  iapply (at_gone m ρ K c 10 (by decide) true 1 1 rfl) $$ HA
  iintro HA
  iapply (at_gone m ρ K c 11 (by decide) false 1 1 rfl) $$ HA
  iintro HA
  iapply (at_gone m ρ K c 12 (by decide) true 1 2 rfl) $$ HA
  iintro HA
  iapply (at_gone m ρ K c 13 (by decide) false 1 2 rfl) $$ HA
  iintro HA
  iapply (wp_done c)
  iapply Hk
  iexact HA

/-- Transfers 14 to 16 are gone. -/
theorem wp_part32 (Kt : PUnit → sProp 𝕄) :
    iprop(At m ρ K c 24 24 14 ∗ (At m ρ K c 24 24 17 -∗ Kt ⟨⟩))
      ⊢ WP c (k0_part32 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [k0_part32_eq_skeleton]; unfold k0_part32_skel
  simp only [Prog.lift, Prog.bind_op, Prog.bind_ret, Prog.pure_eq_ret]
  iintro ⟨HA, Hk⟩
  iapply (at_gone m ρ K c 14 (by decide) true 1 3 rfl) $$ HA
  iintro HA
  iapply (at_gone m ρ K c 15 (by decide) false 1 3 rfl) $$ HA
  iintro HA
  iapply (at_gone m ρ K c 16 (by decide) true 2 0 rfl) $$ HA
  iintro HA
  iapply (wp_done c)
  iapply Hk
  iexact HA

/-- Transfers 17 to 19 are gone. -/
theorem wp_part33 (Kt : PUnit → sProp 𝕄) :
    iprop(At m ρ K c 24 24 17 ∗ (At m ρ K c 24 24 20 -∗ Kt ⟨⟩))
      ⊢ WP c (k0_part33 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [k0_part33_eq_skeleton]; unfold k0_part33_skel
  simp only [Prog.lift, Prog.bind_op, Prog.bind_ret, Prog.pure_eq_ret]
  iintro ⟨HA, Hk⟩
  iapply (at_gone m ρ K c 17 (by decide) false 2 0 rfl) $$ HA
  iintro HA
  iapply (at_gone m ρ K c 18 (by decide) true 2 1 rfl) $$ HA
  iintro HA
  iapply (at_gone m ρ K c 19 (by decide) false 2 1 rfl) $$ HA
  iintro HA
  iapply (wp_done c)
  iapply Hk
  iexact HA

end Cert.TwoRings
-- ==== Proof.Body.lean ====
module

public import proofs.«01_k».proof.Proof.Prelude
public import proofs.«01_k».proof.Proof.Hops
public import proofs.«01_k».proof.Proof.Results

/-! # The body, part after part -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 48) → ℕ)
variable (c : Dev nD)

/-- The six arrays the body works in, holding anything. -/
def Scratch : sProp 𝕄 :=
  iprop((∃ X, pts c cc0_scratch0 X) ∗ (∃ X, pts c cc0_scratch1 X) ∗ (∃ X, pts c cc0_scratch2 X) ∗ (∃ X, pts c cc0_scratch3 X)
    ∗ (∃ X, pts c cc0_scratch4 X) ∗ (∃ X, pts c cc0_scratch5 X))

/-- Everything but the last two waits. -/
theorem wp_part34 (Kt : PUnit → sProp 𝕄) :
    iprop(Before m ρ K c ∗ Stg m ρ c ∗ Scratch c ∗ Out m ρ c 0
      ∗ ((At m ρ K c 24 24 22 ∗ atPos ER (barCell c) 1 ∅ 0 ∗ Stg m ρ c ∗ Adds m ρ c ∗ Out m ρ c 8) -∗ Kt ⟨⟩))
      ⊢ WP c (k0_part34 (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [k0_part34_eq_skeleton]; unfold k0_part34_skel
  simp only [Prog.lift, Prog.bind_op, Prog.bind_ret, Prog.pure_eq_ret]
  unfold Scratch
  iintro ⟨HB, HG, ⟨H0, H1, H2, H3, H4, H5⟩, HO, Hk⟩
  iapply (wp_next c)
  iapply (wp_part1 m ρ c)
  isplitl [HG]; · iexact HG
  isplitl [H4]; · iexact H4
  iintro %v2 %v5 %v7 ⟨HG, H4⟩
  iapply (wp_next c)
  iapply (wp_part2 m ρ K c v5 v7)
  isplitl [HB]; · iexact HB
  isplitl [H4]; · iexact H4
  isplitl [H5]; · iexact H5
  iintro ⟨HA, Hat, P1, P2, P3, P4, P5, P6, P7⟩
  iapply (wp_next c)
  iapply (wp_part3 m ρ K c v5 v7)
  isplitl [HA]; · iexact HA
  isplitl [P1]; · iexact P1
  isplitl [P2]; · iexact P2
  isplitl [P3]; · iexact P3
  iintro HA
  iapply (wp_next c)
  iapply (wp_part4 m ρ K c v5 v7)
  isplitl [HA]; · iexact HA
  isplitl [P4]; · iexact P4
  isplitl [P5]; · iexact P5
  iintro HA
  iapply (wp_next c)
  iapply (wp_part5 m ρ K c v2 v5)
  isplitl [HA]; · iexact HA
  isplitl [P6]; · iexact P6
  isplitl [P7]; · iexact P7
  isplitl [HG]; · iexact HG
  isplitl [H0]; · iexact H0
  iintro ⟨HA, HG, H0⟩
  iapply (wp_next c)
  iapply (wp_part6 m ρ c v2)
  isplitl [HG]; · iexact HG
  isplitl [H0]; · iexact H0
  isplitl [H1]; · iexact H1
  isplitl [H2]; · iexact H2
  isplitl [H3]; · iexact H3
  iintro ⟨HG, HD⟩
  iapply (wp_next c)
  iapply (wp_part7 m ρ K c v7)
  isplitl [HA]; · iexact HA
  isplitl [HD]; · iexact HD
  iintro ⟨HA, HD⟩
  iapply (wp_next c)
  iapply (wp_part8 m ρ K c v5)
  isplitl [HA]; · iexact HA
  isplitl [HD]; · iexact HD
  iintro ⟨HA, HD⟩
  iapply (wp_next c)
  iapply (wp_part9 m ρ K c v7)
  isplitl [HA]; · iexact HA
  isplitl [HD]; · iexact HD
  iintro ⟨HA, HD⟩
  iapply (wp_next c)
  iapply (wp_part10 m ρ K c v5)
  isplitl [HA]; · iexact HA
  isplitl [HD]; · iexact HD
  iintro ⟨HA, HD⟩
  iapply (wp_next c)
  iapply (wp_part11 m ρ K c v7)
  isplitl [HA]; · iexact HA
  isplitl [HD]; · iexact HD
  iintro ⟨HA, HD⟩
  iapply (wp_next c)
  iapply (wp_part12 m ρ K c v5)
  isplitl [HA]; · iexact HA
  isplitl [HD]; · iexact HD
  iintro ⟨HA, HD⟩
  iapply (wp_next c)
  iapply (wp_part13 m ρ K c v7)
  isplitl [HA]; · iexact HA
  isplitl [HD]; · iexact HD
  iintro ⟨HA, HD⟩
  iapply (wp_next c)
  iapply (wp_part14 m ρ K c v5)
  isplitl [HA]; · iexact HA
  isplitl [HD]; · iexact HD
  iintro ⟨HA, HD⟩
  iapply (wp_next c)
  iapply (wp_part15 m ρ K c v7)
  isplitl [HA]; · iexact HA
  isplitl [HD]; · iexact HD
  iintro ⟨HA, HD⟩
  iapply (wp_next c)
  iapply (wp_part16 m ρ K c v5)
  isplitl [HA]; · iexact HA
  isplitl [HD]; · iexact HD
  iintro ⟨HA, HD⟩
  iapply (wp_next c)
  iapply (wp_part17 m ρ K c v7)
  isplitl [HA]; · iexact HA
  isplitl [HD]; · iexact HD
  iintro ⟨HA, HD⟩
  iapply (wp_next c)
  iapply (wp_part18 m ρ K c v5)
  isplitl [HA]; · iexact HA
  isplitl [HD]; · iexact HD
  iintro ⟨HA, HD⟩
  iapply (wp_next c)
  iapply (wp_part19 m ρ K c v7)
  isplitl [HA]; · iexact HA
  isplitl [HD]; · iexact HD
  iintro ⟨HA, HD⟩
  iapply (wp_next c)
  iapply (wp_part20 m ρ K c v5)
  isplitl [HA]; · iexact HA
  isplitl [HD]; · iexact HD
  iintro ⟨HA, HD⟩
  iapply (wp_next c)
  iapply (wp_part21 m ρ K c v7)
  isplitl [HA]; · iexact HA
  isplitl [HD]; · iexact HD
  iintro ⟨HA, HD⟩
  iapply (wp_next c)
  iapply (wp_part22 m ρ K c v5)
  isplitl [HA]; · iexact HA
  isplitl [HD]; · iexact HD
  iintro ⟨HA, HD⟩
  ihave HD := (show iprop(Adds m ρ c ∗ Out m ρ c 0) ⊢ iprop(Adds m ρ c ∗ Out m ρ c 0) from .rfl) $$ [HD HO]
  · isplitl [HD]; · iexact HD
    iexact HO
  iapply (wp_next c)
  iapply (wp_part23 m ρ K c v5 v7)
  isplitl [HA]; · iexact HA
  isplitl [HD]; · iexact HD
  iintro ⟨HA, HD⟩
  iapply (wp_next c)
  iapply (wp_part24 m ρ K c v5 v7)
  isplitl [HA]; · iexact HA
  isplitl [HD]; · iexact HD
  iintro ⟨HA, HD⟩
  iapply (wp_next c)
  iapply (wp_part25 m ρ K c v7)
  isplitl [HA]; · iexact HA
  isplitl [HD]; · iexact HD
  iintro ⟨HA, HD⟩
  iapply (wp_next c)
  iapply (wp_part26 m ρ K c v5 v7)
  isplitl [HA]; · iexact HA
  isplitl [HD]; · iexact HD
  iintro ⟨HA, HD⟩
  iapply (wp_next c)
  iapply (wp_part27 m ρ K c v5)
  isplitl [HA]; · iexact HA
  isplitl [HD]; · iexact HD
  iintro ⟨HA, HD⟩
  iapply (wp_next c)
  iapply (wp_part28 m ρ K c)
  isplitl [HA]; · iexact HA
  iintro HA
  iapply (wp_next c)
  iapply (wp_part29 m ρ K c)
  isplitl [HA]; · iexact HA
  iintro HA
  iapply (wp_next c)
  iapply (wp_part30 m ρ K c)
  isplitl [HA]; · iexact HA
  iintro HA
  iapply (wp_next c)
  iapply (wp_part31 m ρ K c)
  isplitl [HA]; · iexact HA
  iintro HA
  iapply (wp_next c)
  iapply (wp_part32 m ρ K c)
  isplitl [HA]; · iexact HA
  iintro HA
  iapply (wp_next c)
  iapply (wp_part33 m ρ K c)
  isplitl [HA]; · iexact HA
  iintro HA
  iapply (at_gone m ρ K c 20 (by decide) true 2 2 rfl) $$ HA
  iintro HA
  iapply (at_gone m ρ K c 21 (by decide) false 2 2 rfl) $$ HA
  iintro HA
  iapply (wp_done c)
  icases HD with ⟨HD, HO⟩
  iapply Hk
  isplitl [HA]; · iexact HA
  isplitl [Hat]; · iexact Hat
  isplitl [HG]; · iexact HG
  isplitl [HD]; · iexact HD
  iexact HO

/-- The whole body: from what a device holds at launch to everything sent, taken and known to be gone. -/
theorem wp_body (Kt : PUnit → sProp 𝕄) :
    iprop(Before m ρ K c ∗ Stg m ρ c ∗ Scratch c ∗ Out m ρ c 0
      ∗ ((At m ρ K c 24 24 24 ∗ atPos ER (barCell c) 1 ∅ 0 ∗ Stg m ρ c ∗ Adds m ρ c ∗ Out m ρ c 8) -∗ WP c (.ret ⟨⟩) Kt))
      ⊢ WP c (cc0_body (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) Kt := by
  rw [cc0_body_eq_skeleton]; unfold cc0_body_skel
  simp only [Prog.lift, Prog.bind_op, Prog.bind_ret, Prog.pure_eq_ret]
  iintro ⟨HB, HG, HS, HO, Hk⟩
  iapply (wp_next c)
  iapply (wp_part34 m ρ K c)
  isplitl [HB]; · iexact HB
  isplitl [HG]; · iexact HG
  isplitl [HS]; · iexact HS
  isplitl [HO]; · iexact HO
  iintro ⟨HA, Hr⟩
  iapply (at_gone m ρ K c 22 (by decide) true 2 3 rfl) $$ HA
  iintro HA
  iapply (at_gone m ρ K c 23 (by decide) false 2 3 rfl) $$ HA
  iintro HA
  iapply Hk
  isplitl [HA]; · iexact HA
  iexact Hr

end Cert.TwoRings
-- ==== Proof.Close.lean ====
module

public import proofs.«01_k».proof.Proof.Body

/-! # The end of the body

Every cell has had its one round: the device closes its 49 cells, which gives back their counters at zero, and puts the pieces
of its two streams together again. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 48) → ℕ)
variable (c : Dev nD)

/-! ## Families over the 48 places -/

/-- The places are the send places and the receive places of the 24 transfers. -/
def places : Key ⊕ Key ≃ Fin 48 where
  toFun := Sum.elim sendIx recvIx
  invFun j := if isRecv j then .inr (keyOf j) else .inl (keyOf j)
  left_inv := by
    rintro (k | k)
    · simp only [Sum.elim_inl, isRecv_send, keyOf_send, Bool.false_eq_true, if_false]
    · simp only [Sum.elim_inr, isRecv_recv, keyOf_recv, if_true]
  right_inv := by decide

omit [FloatOps F] in
theorem over_places (Φ : Fin 48 → sProp 𝕄) :
    bigSep Finset.univ Φ = iprop((bigSep Finset.univ fun k => Φ (sendIx k)) ∗ bigSep Finset.univ fun k => Φ (recvIx k)) := by
  rw [bigSep_univ_equiv places, bigSep_univ_sum]
  rfl
omit [FloatOps F] in
/-- A family over a device's 49 cells: the barrier cell's member and those of the places. -/
theorem over_cells (Φ : Option (Fin 48) → sProp 𝕄) : bigSep Finset.univ Φ = iprop(Φ none ∗ bigSep Finset.univ fun j => Φ (some j)) := by
  have h : bigSep Finset.univ Φ = iprop((bigSep Finset.univ fun j => Φ (some j)) ∗ bigSep (Finset.univ : Finset PUnit.{1}) fun _ => Φ none) := by
    rw [bigSep_univ_equiv (Equiv.optionEquivSumPUnit.{0} (Fin 48)).symm, bigSep_univ_sum]
    rfl
  rw [h, show (Finset.univ : Finset PUnit.{1}) = {PUnit.unit} from rfl, bigSep_singleton]
  exact BI.Entails.antisymm BI.sep_comm BI.sep_comm
omit [FloatOps F] in
/-- A family over the transfers, stream by stream. -/
theorem over_streams (Φ : Key → sProp 𝕄) :
    bigSep Finset.univ Φ = iprop((bigSep Finset.univ fun hs : Fin 3 × Fin 4 => Φ (true, hs)) ∗ bigSep Finset.univ fun hs : Fin 3 × Fin 4 => Φ (false, hs)) := by
  rw [bigSep_univ_prod]
  exact bigSep_univ_eq_bigSepL [true, false] (by decide) (by decide) (fun d => bigSep Finset.univ fun hs : Fin 3 × Fin 4 => Φ (d, hs))

omit [FloatOps F] in
/-- Something persistent may be used at every member. -/
theorem family_with {T : Type} [Fintype T] [DecidableEq T] {R : sProp 𝕄} [BI.Persistent R] {Φ Ψ : T → sProp 𝕄}
    (h : ∀ t, iprop(R ∗ Φ t) ⊢ Ψ t) : iprop(R ∗ bigSep Finset.univ Φ) ⊢ bigSep Finset.univ Ψ := by
  refine (sep_mono_left (BI.bigSep_of_persistent (Finset.univ : Finset T) R)).trans ?_
  rw [← bigSep_sep']
  exact bigSep_mono fun t _ => h t

/-! ## Closing -/

/-- A cell past its one round closes. -/
theorem close_at (ck : Dev nD × Option (Fin 48)) :
    iprop(recs m ρ K ∗ atPos ER (kcell ck) 1 ∅ 0) ⊢ |={Set.univ}=> semVal (kcell ck) 0 := by
  iintro ⟨#HR, Hat⟩
  ihave #HC := (recs_at m ρ K ck) $$ HR
  icases HC with ⟨#HI, -⟩
  iapply (Rounds.cell_close ER (ringRd m ρ) (Set.mem_univ (K ck)) (fun h => h) (R := 1) (duties_later m ρ (kcell ck)))
  isplitr; · iexact HI
  iexact Hat

/-- What the receiving side of a transfer keeps: the pieces of the last hop. -/
def kept (k : Key) : sProp 𝕄 := if k.2.1 = 2 then recvPay m ρ c k else iprop(emp)

theorem fAt_end (k : Key) : fAt 24 24 k = 2 := if_pos (ixOf_lt k)
theorem gAt_end (k : Key) : gAt 24 k = if k.2.1 = 2 then 1 else 2 := if_pos (ixOf_lt k)

/-- The sending side of transfer `k` at its end, -/
theorem close_send (k : Key) : iprop(recs m ρ K ∗ SendSt m ρ c k (fAt 24 24 k)) ⊢ |={Set.univ}=> iprop(semVal (sendCell c k) 0 ∗ sendPay m ρ c k) := by
  rw [fAt_end]
  refine (show iprop(recs m ρ K ∗ (atPos ER (sendCell c k) 1 ∅ 0 ∗ sendPay m ρ c k)) ⊢ |={Set.univ}=> iprop(semVal (sendCell c k) 0 ∗ sendPay m ρ c k) from ?_)
  iintro ⟨#HR, Hat, HP⟩
  imod (close_at m ρ K (c, some (sendIx k))) $$ [Hat] with Hz
  · isplitr; · iexact HR
    iexact Hat
  imodintro
  isplitl [Hz]; · iexact Hz
  iexact HP
/-- and the receiving side. -/
theorem close_recv (k : Key) : iprop(recs m ρ K ∗ RecvSt m ρ c k (gAt 24 k)) ⊢ |={Set.univ}=> iprop(semVal (recvCell c k) 0 ∗ kept m ρ c k) := by
  rw [gAt_end]
  unfold kept
  by_cases h : k.2.1 = 2
  · rw [if_pos h, if_pos h]
    refine (show iprop(recs m ρ K ∗ (atPos ER (recvCell c k) 1 ∅ 0 ∗ recvPay m ρ c k)) ⊢ |={Set.univ}=> iprop(semVal (recvCell c k) 0 ∗ recvPay m ρ c k) from ?_)
    iintro ⟨#HR, Hat, HP⟩
    imod (close_at m ρ K (c, some (recvIx k))) $$ [Hat] with Hz
    · isplitr; · iexact HR
      iexact Hat
    imodintro
    isplitl [Hz]; · iexact Hz
    iexact HP
  · rw [if_neg h, if_neg h]
    refine (show iprop(recs m ρ K ∗ atPos ER (recvCell c k) 1 ∅ 0) ⊢ |={Set.univ}=> iprop(semVal (recvCell c k) 0 ∗ emp) from ?_)
    iintro ⟨#HR, Hat⟩
    imod (close_at m ρ K (c, some (recvIx k))) $$ [Hat] with Hz
    · isplitr; · iexact HR
      iexact Hat
    imodintro
    isplitl [Hz]; · iexact Hz
    iempintro

/-- A stream's kept pieces are slot 3's. -/
theorem kept_last (d : Bool) : (bigSep Finset.univ fun hs : Fin 3 × Fin 4 => kept m ρ c (d, hs)) ⊢ (bigSep Finset.univ fun s : Fin 4 => recvPay m ρ c (d, 2, s) : sProp 𝕄) := by
  rw [bigSep_univ_prod]
  exact bigSep_elim (Finset.mem_univ (2 : Fin 3))

/-- The device's counters at zero, its two streams whole, nothing owed. -/
def After : sProp 𝕄 :=
  iprop((∃ W, owes (c : Thread nD τ) 0 W) ∗ Pipeline.ownSems0 (Ix := Unit) (Name := ℕ) (U := UU) (Lvl := ℕ) (Val := Elt F) (τ := τ) osem c
    ∗ semVal (barCell c) 0 ∗ (∃ X, pts c cc0_scratch4 X) ∗ (∃ X, pts c cc0_scratch5 X))

theorem at_end : iprop(At m ρ K c 24 24 24 ∗ atPos ER (barCell c) 1 ∅ 0) ⊢ |={Set.univ}=> After c := by
  unfold At
  refine (show iprop((recs m ρ K ∗ levAts L lv ∗ (∃ W, owes (c : Thread nD τ) 0 W) ∗ (bigSep Finset.univ fun k => SendSt m ρ c k (fAt 24 24 k))
    ∗ (bigSep Finset.univ fun k => RecvSt m ρ c k (gAt 24 k))) ∗ atPos ER (barCell c) 1 ∅ 0) ⊢ |={Set.univ}=> After c from ?_)
  iintro ⟨⟨#HR, -, HO, HS, HV⟩, Hat⟩
  imod (close_at m ρ K (c, none)) $$ [Hat] with Hb
  · isplitr; · iexact HR
    iexact Hat
  imod ((family_with (close_send m ρ K c)).trans (bigSep_fupd _ _)) $$ [HS] with HS
  · isplitr; · iexact HR
    iexact HS
  imod ((family_with (close_recv m ρ K c)).trans (bigSep_fupd _ _)) $$ [HV] with HV
  · isplitr; · iexact HR
    iexact HV
  ihave HS := (Entails.of_eq (bigSep_sep' Finset.univ (fun k => (semVal (sendCell c k) 0 : sProp 𝕄)) (fun k => sendPay m ρ c k))) $$ HS
  icases HS with ⟨HS, PS⟩
  ihave HV := (Entails.of_eq (bigSep_sep' Finset.univ (fun k => (semVal (recvCell c k) 0 : sProp 𝕄)) (fun k => kept m ρ c k))) $$ HV
  icases HV with ⟨HV, PV⟩
  ihave PS := (Entails.of_eq (over_streams (fun k => sendPay m ρ c k))) $$ PS
  icases PS with ⟨PSr, PSl⟩
  ihave PV := (Entails.of_eq (over_streams (fun k => kept m ρ c k))) $$ PV
  icases PV with ⟨PVr, PVl⟩
  ihave PVr := (kept_last m ρ c true) $$ PVr
  ihave PVl := (kept_last m ρ c false) $$ PVl
  ihave H4 := (comm_end m ρ c true) $$ [PSr PVr]
  · isplitl [PSr]; · iexact PSr
    iexact PVr
  ihave H5 := (comm_end m ρ c false) $$ [PSl PVl]
  · isplitl [PSl]; · iexact PSl
    iexact PVl
  imodintro
  unfold After Pipeline.ownSems0
  rw [over_places]
  isplitl [HO]; · iexact HO
  isplitl [HS HV]
  · isplitl [HS]; · iexact HS
    iexact HV
  isplitl [Hb]; · iexact Hb
  isplitl [H4]
  · icases H4 with ⟨%X, H4⟩
    iexists X
    iapply (Entails.of_eq (owns_whole (c : Thread nD τ) cc0_scratch4 fullShare X)); iexact H4
  · icases H5 with ⟨%X, H5⟩
    iexists X
    iapply (Entails.of_eq (owns_whole (c : Thread nD τ) cc0_scratch5 fullShare X)); iexact H5

end Cert.TwoRings
-- ==== Proof.Data.lean ====
module

public import proofs.«01_k».proof.Proof.Close

/-! # The body as the staging sees it

The call has one point: the two operands are staged in, the body runs, the result is staged out. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Pipeline

/-! ## Before and after the point -/

/-- A device's part of the rings at launch: all cells' records, its positions, the tokens of the payments it will make. -/
def Ghost (K : Dev nD × Option (Fin 48) → ℕ) (c : Dev nD) : sProp 𝕄 :=
  iprop(recs m ρ K ∗ atPos ER (barCell c) 0 ∅ 0 ∗ dutyTok ER (barCell (prv c)) 0 true ∗ dutyTok ER (barCell (nxt c)) 0 false
    ∗ (bigSep Finset.univ fun k => SendPre c k) ∗ bigSep Finset.univ fun k => atPos ER (recvCell c k) 0 ∅ 0)

/-- With the levels and the credits of the units others owe it. -/
def start (c : Dev nD) : sProp 𝕄 :=
  iprop((∃ K, Ghost m ρ K c) ∗ levAts L lv ∗ cred (tallyAt (barCell c) () 2) ∗ bigSep Finset.univ fun k => cred (tallyAt (recvCell c k) () N))

def Φ₀ (c : Dev nD) : sProp 𝕄 := iprop(start m ρ c ∗ Scratch c)
def Φ₁ (c : Dev nD) : sProp 𝕄 :=
  iprop(Scratch c ∗ Pipeline.ownSems0 (Ix := Unit) (Name := ℕ) (U := UU) (Lvl := ℕ) (Val := Elt F) (τ := τ) osem c ∗ semVal (barCell c) 0)

/-- The staging's data: the arrays at launch, what the body leaves in each staging buffer, what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 3)).fetch t = true := by rw [fin_N0 t]; rfl
theorem fetch_w (t : Fin cfg0.N) : (cfg0.win (1 : Fin 3)).fetch t = true := by rw [fin_N0 t]; rfl

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

/-- What the body needs, from what it gets. -/
theorem before_of (K : Dev nD × Option (Fin 48) → ℕ) (c : Dev nD) :
    iprop(Ghost m ρ K c ∗ levAts L lv ∗ cred (tallyAt (barCell c) () 2) ∗ (bigSep Finset.univ fun k => cred (tallyAt (recvCell c k) () N))
        ∗ (∃ W, owes (c : Thread nD τ) (O₀ c) W))
      ⊢ Before m ρ K c := by
  unfold Ghost Before
  iintro ⟨⟨HR, Hat, HtP, HtN, HS, HV⟩, HL, Hc, HC, HO⟩
  isplitl [HR]; · iexact HR
  isplitl [HL]; · iexact HL
  isplitl [HO]; · iexact HO
  isplitl [Hat]; · iexact Hat
  isplitl [HtP]; · iexact HtP
  isplitl [HtN]; · iexact HtN
  isplitl [Hc]; · iexact Hc
  isplitl [HS]; · iexact HS
  iapply (show iprop((bigSep Finset.univ fun k => atPos ER (recvCell c k) 0 ∅ 0) ∗ (bigSep Finset.univ fun k => cred (tallyAt (recvCell c k) () N)))
      ⊢ (bigSep Finset.univ fun k => RecvSt m ρ c k 0 : sProp 𝕄) from
    Entails.of_eq (bigSep_sep' Finset.univ (fun k => (atPos ER (recvCell c k) 0 ∅ 0 : sProp 𝕄)) (fun k => cred (tallyAt (recvCell c k) () N))).symm)
  isplitl [HV]; · iexact HV
  iexact HC

/-- The body runs from its precondition to its postcondition. -/
theorem sound_body (c : Dev nD) :
    bodyPre m ρ c ⊢ WP c (cc0_body (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) (fun _ => bodyPost m ρ c) := by
  unfold bodyPre Φ₀ start
  iintro ⟨⟨⟨⟨%K, HG⟩, HL, Hb, HC⟩, HS⟩, Ho, ⟨%d0, %g0, %hg0, Hx⟩, ⟨%d1, %g1, %hg1, Hw⟩, ⟨%d2, %g2, %hg2, Hy⟩⟩
  have hx : g0 = xstg m ρ c := by rw [hg0]; unfold Dat.before; rw [if_pos (fetch_x t0_0)]; rfl
  have hw : g1 = wstg m ρ c := by rw [hg1]; unfold Dat.before; rw [if_pos (fetch_w t0_0)]; rfl
  subst hx
  subst hw
  unfold Dat.owesAt Pipeline.owesWithin
  icases Ho with ⟨%W, %hW, HO⟩
  rw [show (dats m ρ 0 c).owed t0_0.castSucc = O₀ c from rfl]
  ihave HB := (before_of m ρ K c) $$ [HG HL Hb HC HO]
  · isplitl [HG]; · iexact HG
    isplitl [HL]; · iexact HL
    isplitl [Hb]; · iexact Hb
    isplitl [HC]; · iexact HC
    iexists W; iexact HO
  iapply (wp_body m ρ K c)
  isplitl [HB]; · iexact HB
  isplitl [Hx Hw]
  · unfold Stg
    isplitl [Hx]; · iexact Hx
    iexact Hw
  isplitl [HS]; · iexact HS
  isplitl [Hy]
  · unfold Out
    iexists g2
    isplitl [Hy]; · iexact Hy
    ipureintro
    exact fun d s h => absurd h (Nat.not_lt_zero _)
  iintro ⟨HA, Hat, HG, HD, HO⟩
  unfold WP; rw [wp_ret]
  imod (at_end m ρ K c) $$ [HA Hat] with HE
  · isplitl [HA]; · iexact HA
    iexact Hat
  imodintro
  unfold After Stg Adds Out bodyPost Φ₁ Scratch Dat.owesAt Pipeline.owesWithin
  icases HE with ⟨⟨%W', HW⟩, HZ, Hb, H4, H5⟩
  icases HG with ⟨Hx, Hw⟩
  icases HD with ⟨H0, H1, H2, H3⟩
  icases HO with ⟨%Y, HY, %hY⟩
  rw [show (dats m ρ 0 c).owed t0_0.succ = 0 from rfl]
  isplitl [H0 H1 H2 H3 H4 H5 HZ Hb]
  · isplitl [H0 H1 H2 H3 H4 H5]
    · isplitl [H0]; · iexists _; iexact H0
      isplitl [H1]; · iexists _; iexact H1
      isplitl [H2]; · iexists _; iexact H2
      isplitl [H3]; · iexists _; iexact H3
      isplitl [H4]; · iexact H4
      iexact H5
    isplitl [HZ]; · iexact HZ
    iexact Hb
  isplitl [HW]
  · iexists W'
    isplitr; · ipureintro; exact fun _ _ => Or.inl trivial
    iexact HW
  isplitl [Hx]
  · iexists _; isplitr; · (ipureintro; rfl)
    iexact Hx
  isplitl [Hw]
  · iexists _; isplitr; · (ipureintro; rfl)
    iexact Hw
  iexists Y
  isplitr; · ipureintro; exact filled_all m ρ c hY
  iexact HY

set_option maxRecDepth 10000 in
/-- The same in the form the staging asks for. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (cc0_body (F := F) xM (Memref.isWhole_whole _) wM (Memref.isWhole_whole _) oM (Memref.isWhole_whole _) mM (Memref.isWhole_whole _) rM (Memref.isWhole_whole _) lM (Memref.isWhole_whole _) fM (Memref.isWhole_whole _) (commM true) (Memref.isWhole_whole _) (commM false) (Memref.isWhole_whole _)
        cc0_scratch6 cc0_scratch7 cc0_scratch8 cc0_scratch9) (fun _ => bodyPost m ρ c)
  exact sound_body m ρ c

end Cert.TwoRings
-- ==== Proof.Deal.lean ====
module

public import proofs.«01_k».proof.Proof.Data

/-! # The launch deals the rings out

Every cell starts at its round 0. The token of a payment starts with the cell and goes round the ring to the device that pays. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Pipeline.Dat.share; split <;> rfl

/-! ## The cells and the tokens, each once -/

theorem dsem_inj : Function.Injective dsem := fun i j h => by
  have e : 3 + i.val = 3 + j.val := congrArg Fin.val h
  exact Fin.ext (by omega)

theorem csem_inj : Function.Injective csem := fun
  | none, none, _ => rfl
  | none, some _, h => nomatch h
  | some _, none, h => nomatch h
  | some _, some _, h => congrArg some (dsem_inj (SemLoc.dma.inj h))

theorem kcell_inj : Function.Injective (kcell : Dev nD × Option (Fin 48) → GSem nD τ sig) := fun a b h =>
  Prod.ext (congrArg (fun g : GSem nD τ sig => g.1.1) h) (csem_inj (congrArg Prod.snd h))

/-- The payments due at a device's cells: the barrier's two, each DMA cell's one. -/
abbrev dueAt : Dev nD × (Bool ⊕ Fin 48) → GSem nD τ sig × ℕ × Bool
  | (c, .inl b) => (barCell c, 0, b)
  | (c, .inr j) => (dCell c j, 0, false)

theorem dueAt_inj : Function.Injective dueAt
  | (_, .inl _), (_, .inl _), h => Prod.ext (congrArg (fun x => x.1.1.1) h) (congrArg (fun x => Sum.inl x.2.2) h)
  | (_, .inl _), (_, .inr _), h => nomatch (congrArg (fun x => x.1.2) h : _)
  | (_, .inr _), (_, .inl _), h => nomatch (congrArg (fun x => x.1.2) h : _)
  | (_, .inr _), (_, .inr _), h => Prod.ext (congrArg (fun x => x.1.1.1) h)
      (congrArg Sum.inr (dsem_inj (SemLoc.dma.inj (congrArg (fun x => x.1.2) h))))

def allCells : Finset (GSem nD τ sig) := Finset.univ.map ⟨kcell, kcell_inj⟩
def allDues : Finset (GSem nD τ sig × ℕ × Bool) := Finset.univ.map ⟨dueAt, dueAt_inj⟩

/-- The rings' part of the launch element, beside the staging's. -/
def u₀ : UU := (initOf (Pipeline.cells cfgs cellOf_inj) (Pipeline.launchToks cfgs cellOf_inj), initOf allCells allDues)

omit [FloatOps F] in
theorem over_allCells (Φ : GSem nD τ sig → sProp 𝕄) :
    bigSep allCells Φ = bigSep Finset.univ fun c : Dev nD => bigSep Finset.univ fun j : Option (Fin 48) => Φ (kcell (c, j)) := by
  unfold allCells; rw [bigSep_map, bigSep_univ_prod]; rfl
omit [FloatOps F] in
theorem over_allDues (Φ : GSem nD τ sig × ℕ × Bool → sProp 𝕄) :
    bigSep allDues Φ = bigSep Finset.univ fun c : Dev nD => bigSep Finset.univ fun t : Bool ⊕ Fin 48 => Φ (dueAt (c, t)) := by
  unfold allDues; rw [bigSep_map, bigSep_univ_prod]; rfl

/-- The tokens as they start, with the cells of device `c`, -/
def tokens (c : Dev nD) : sProp 𝕄 := bigSep Finset.univ fun t : Bool ⊕ Fin 48 => dutyTok ER (dueAt (c, t)).1 (dueAt (c, t)).2.1 (dueAt (c, t)).2.2
/-- and the rest of what a device is dealt first. -/
def places0 (c : Dev nD) : sProp 𝕄 := bigSep Finset.univ fun j : Option (Fin 48) => atPos ER (kcell (c, j)) 0 ∅ 0
def seen0 (c : Dev nD) : sProp 𝕄 := bigSep Finset.univ fun j : Option (Fin 48) => reached ER (kcell (c, j)) 0
def rounds0 (c : Dev nD) : sProp 𝕄 := bigSep Finset.univ fun j : Option (Fin 48) => roundState ER (ringRd m ρ) (kcell (c, j)) 0

def dealt (c : Dev nD) : sProp 𝕄 := iprop(rounds0 m ρ c ∗ seen0 c ∗ places0 c ∗ tokens c)

theorem deal : BI.own (ER (initOf allCells allDues)) ⊢ (|==> bigSep Finset.univ (dealt m ρ) : sProp 𝕄) := by
  iintro H
  imod (Rounds.fund ER (ringRd m ρ) allCells allDues) $$ H with ⟨H1, H2, H3, H4⟩
  imodintro
  ihave H1 := (Entails.of_eq (over_allCells fun g => roundState ER (ringRd m ρ) g 0)) $$ H1
  ihave H2 := (Entails.of_eq (over_allCells fun g => reached ER g 0)) $$ H2
  ihave H3 := (Entails.of_eq (over_allCells fun g => atPos ER g 0 ∅ 0)) $$ H3
  ihave H4 := (Entails.of_eq (over_allDues fun x => dutyTok ER x.1 x.2.1 x.2.2)) $$ H4
  unfold dealt
  rw [bigSep_sep', bigSep_sep', bigSep_sep']
  isplitl [H1]; · iexact H1
  isplitl [H2]; · iexact H2
  isplitl [H3]; · iexact H3
  iexact H4

/-! ## Each cell's record -/

omit [FloatOps F] in
/-- The barrier semaphore is the one semaphore that outlives the call. -/
theorem unscoped_bar (c : Dev nD) : (unscopedSems0 c : sProp 𝕄) = semVal (barCell c) 0 := by
  unfold unscopedSems0; rw [bigSep_eq_bigSepL_of_eq [SemLoc.reg barS] (by decide) (by decide)]; rfl

/-- What one device's cells become: their records' invariants, with the rest as dealt. -/
def opened (c : Dev nD) : sProp 𝕄 :=
  iprop((bigSep Finset.univ fun j : Option (Fin 48) => iprop(∃ κ : ℕ, cellInv ER (ringRd m ρ) κ (kcell (c, j)))) ∗ seen0 c ∗ places0 c ∗ tokens c)

theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> opened m ρ c := by
  unfold dealt Pipeline.ownSems0
  rw [unscoped_bar]
  iintro ⟨Hd, Hb, Hst, Hrest⟩
  ihave Hv := (show iprop(semVal (barCell c) 0 ∗ bigSep Finset.univ fun j : Fin 48 => semVal (dCell c j) 0)
      ⊢ (bigSep Finset.univ fun j : Option (Fin 48) => semVal (kcell (c, j)) 0 : sProp 𝕄) from
    Entails.of_eq (over_cells fun j => semVal (kcell (c, j)) 0).symm) $$ [Hb Hd]
  · isplitl [Hb]; · iexact Hb
    iexact Hd
  imod (show iprop((bigSep Finset.univ fun j : Option (Fin 48) => semVal (kcell (c, j)) 0) ∗ rounds0 m ρ c)
      ⊢ (|={Set.univ}=> bigSep Finset.univ fun j : Option (Fin 48) => iprop(∃ κ : ℕ, cellInv ER (ringRd m ρ) κ (kcell (c, j))) : sProp 𝕄) from by
        unfold rounds0
        rw [← bigSep_sep']
        exact (bigSep_mono fun j _ => (Rounds.body_intro ER (ringRd m ρ) (kcell (c, j))).trans inv_alloc).trans (bigSep_fupd _ _)) $$ [Hv Hst] with HI
  · isplitl [Hv]; · iexact Hv
    iexact Hst
  imodintro
  unfold opened
  isplitl [HI]; · iexact HI
  iexact Hrest

/-! ## The tokens go round -/

/-- What stays with device `c`. -/
def mine (c : Dev nD) : sProp 𝕄 :=
  iprop(atPos ER (barCell c) 0 ∅ 0 ∗ dutyTok ER (barCell (prv c)) 0 true ∗ dutyTok ER (barCell (nxt c)) 0 false
    ∗ (bigSep Finset.univ fun k => SendPre c k) ∗ bigSep Finset.univ fun k => atPos ER (recvCell c k) 0 ∅ 0)

omit [FloatOps F] in
theorem places0_eq (c : Dev nD) : (places0 c : sProp 𝕄)
    = iprop(atPos ER (barCell c) 0 ∅ 0 ∗ (bigSep Finset.univ fun k => atPos ER (sendCell c k) 0 ∅ 0) ∗ bigSep Finset.univ fun k => atPos ER (recvCell c k) 0 ∅ 0) := by
  unfold places0
  rw [over_cells, over_places (fun j => atPos ER (kcell (c, some j)) 0 ∅ 0)]

omit [FloatOps F] in
theorem tokens_eq (c : Dev nD) : (tokens c : sProp 𝕄)
    = iprop((dutyTok ER (barCell c) 0 true ∗ dutyTok ER (barCell c) 0 false)
      ∗ (bigSep Finset.univ fun k => dutyTok ER (sendCell c k) 0 false) ∗ bigSep Finset.univ fun k => dutyTok ER (recvCell c k) 0 false) := by
  unfold tokens
  rw [BI.bigSep_univ_sum]
  show iprop((bigSep Finset.univ fun b : Bool => dutyTok ER (barCell c) 0 b) ∗ bigSep Finset.univ fun j : Fin 48 => dutyTok ER (dCell c j) 0 false) = _
  rw [over_places (fun j => dutyTok ER (dCell c j) 0 false)]
  congr 1
  exact bigSep_univ_eq_bigSepL [true, false] (by decide) (by decide) (fun b => dutyTok ER (barCell c) 0 b)

omit [FloatOps F] in
/-- The token of a landing starts at the landing and goes to the device that sends there. -/
theorem landing_tokens : (bigSep Finset.univ fun c : Dev nD => bigSep Finset.univ fun k : Key => (dutyTok ER (recvCell c k) 0 false : sProp 𝕄))
    = bigSep Finset.univ fun c : Dev nD => bigSep Finset.univ fun k : Key => dutyTok ER (recvCell (tgt k.1 c) k) 0 false := by
  rw [Pipeline.bigSep_univ_comm, Pipeline.bigSep_univ_comm (fun (c : Dev nD) (k : Key) => (dutyTok ER (recvCell (tgt k.1 c) k) 0 false : sProp 𝕄))]
  exact bigSep_congr fun k _ => bigSep_univ_equiv (ring k.1) (fun c : Dev nD => (dutyTok ER (recvCell c k) 0 false : sProp 𝕄))

omit [FloatOps F] in
theorem go_round : iprop((bigSep Finset.univ fun c : Dev nD => (places0 c : sProp 𝕄)) ∗ bigSep Finset.univ fun c : Dev nD => (tokens c : sProp 𝕄))
    ⊢ bigSep Finset.univ fun c : Dev nD => mine c := by
  rw [bigSep_congr fun (c : Dev nD) _ => places0_eq c, bigSep_congr fun (c : Dev nD) _ => tokens_eq c]
  unfold mine SendPre
  simp only [bigSep_sep']
  rw [landing_tokens, bigSep_univ_equiv (ring false) (fun c : Dev nD => (dutyTok ER (barCell c) 0 true : sProp 𝕄)),
    bigSep_univ_equiv (ring true) (fun c : Dev nD => (dutyTok ER (barCell c) 0 false : sProp 𝕄))]
  iintro ⟨⟨HA, HS, HV⟩, ⟨HP, HN⟩, TS, TV⟩
  isplitl [HA]; · iexact HA
  isplitl [HP]; · iexact HP
  isplitl [HN]; · iexact HN
  isplitl [HS TS TV]
  · isplitl [HS]; · iexact HS
    isplitl [TS]; · iexact TS
    iexact TV
  iexact HV

/-! ## All devices at once -/

/-- A device's part of the rings, under some naming of the records. -/
def dealtEnd (c : Dev nD) : sProp 𝕄 := iprop(∃ K, Ghost m ρ K c)

theorem share_records (K : Dev nD × Option (Fin 48) → ℕ) (c : Dev nD) : iprop(recs m ρ K ∗ mine c) ⊢ dealtEnd m ρ c := by
  unfold dealtEnd Ghost mine
  iintro H
  iexists K
  iexact H

theorem regroup : (bigSep Finset.univ fun c : Dev nD => opened m ρ c) ⊢ bigSep Finset.univ (dealtEnd m ρ) := by
  unfold opened
  rw [bigSep_sep', bigSep_sep', bigSep_sep']
  iintro ⟨HI, HR, HP, HT⟩
  ihave HI := (Entails.of_eq (bigSep_univ_prod (fun ck : Dev nD × Option (Fin 48) => iprop(∃ κ : ℕ, cellInv ER (ringRd m ρ) κ (kcell ck)))).symm) $$ HI
  ihave HI := (BI.bigSep_exists_pi Finset.univ (fun (ck : Dev nD × Option (Fin 48)) (κ : ℕ) => (cellInv ER (ringRd m ρ) κ (kcell ck) : sProp 𝕄))) $$ HI
  icases HI with ⟨%K, HI⟩
  ihave HR := (show (bigSep Finset.univ fun c : Dev nD => (seen0 c : sProp 𝕄)) ⊢ bigSep Finset.univ fun ck : Dev nD × Option (Fin 48) => reached ER (kcell ck) 0 from
    Entails.of_eq (bigSep_univ_prod (fun ck : Dev nD × Option (Fin 48) => (reached ER (kcell ck) 0 : sProp 𝕄))).symm) $$ HR
  ihave HK := (show iprop((bigSep Finset.univ fun ck : Dev nD × Option (Fin 48) => cellInv ER (ringRd m ρ) (K ck) (kcell ck)) ∗ bigSep Finset.univ fun ck : Dev nD × Option (Fin 48) => reached ER (kcell ck) 0)
      ⊢ (recs m ρ K : sProp 𝕄) from by unfold recs; rw [bigSep_sep']) $$ [HI HR]
  · isplitl [HI]; · iexact HI
    iexact HR
  iapply (family_with (R := recs m ρ K) fun c => share_records m ρ K c)
  isplitl [HK]; · iexact HK
  iapply (go_round (F := F))
  isplitl [HP]; · iexact HP
  iexact HT

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (dealtEnd m ρ) :=
  ((bigSep_mono fun c _ => open_cells m ρ c).trans (bigSep_fupd _ _)).trans (BI.fupd_mono (regroup m ρ))

end Cert.TwoRings
-- ==== Proof.Credits.lean ====
module

public import proofs.«01_k».proof.Proof.Data

/-! # What others owe a device at launch

Two units on its barrier cell, one piece's credit on each of its 24 receive cells. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem bar_ne_d (c c' : Dev nD) (j : Fin 48) : dCell c j ≠ barCell c' := fun h => nomatch (congrArg Prod.snd h : _)

theorem recv_eq {a b : Dev nD} {k k' : Key} (h : recvCell a k = recvCell b k') : a = b ∧ k = k' := by
  refine ⟨congrArg (fun g : GSem nD τ sig => g.1.1) h, ?_⟩
  have e : dsem (recvIx k) = dsem (recvIx k') := SemLoc.dma.inj (congrArg Prod.snd h)
  have e' := congrArg place e
  rw [place_dsem, place_dsem] at e'
  rw [← keyOf_recv k, Option.some.inj e', keyOf_recv]

theorem bar_eq {a b : Dev nD} (h : barCell a = barCell b) : a = b := congrArg (fun g : GSem nD τ sig => g.1.1) h

/-- All a device's transfers, in whatever order. -/
theorem Orem_all (d : Dev nD) : Orem d 24 = ∑ k : Key, tallyAt (recvCell (tgt k.1 d) k) () N := by
  unfold Orem
  refine Finset.sum_bij' (fun i _ => nth (23 - i)) (fun k _ => 23 - ixOf k) (fun _ _ => Finset.mem_univ _) (fun k _ => Finset.mem_range.mpr (by omega))
    (fun i hi => ?_) (fun k _ => ?_) (fun _ _ => rfl)
  · have h := Finset.mem_range.mp hi
    rw [ixOf_nth _ (by omega)]; omega
  · have h := ixOf_lt k
    rw [show 23 - (23 - ixOf k) = ixOf k by omega, nth_ixOf]

/-- Device `d` owes a landing exactly if it sends there. -/
theorem owed_recv (d c : Dev nD) (k : Key) : O₀ d (recvCell c k) () = if d = src k.1 c then N else 0 := by
  unfold O₀ O₁
  rw [Pi.add_apply, Finsupp.add_apply, Pi.add_apply, Finsupp.add_apply, tallyAt_ne_cell (bar_ne_d _ _ _), tallyAt_ne_cell (bar_ne_d _ _ _),
    Finsupp.zero_apply, Nat.add_zero, Nat.add_zero, Orem_all, Finset.sum_apply, Finsupp.finset_sum_apply]
  rw [Finset.sum_eq_single k (fun k' _ hk => ?_) (fun h => absurd (Finset.mem_univ _) h)]
  · rw [tallyAt_apply]
    by_cases h : d = src k.1 c
    · rw [if_pos h, if_pos ⟨by rw [h, tgt_src], rfl⟩]
    · rw [if_neg h, if_neg fun h' => h (by rw [(recv_eq h'.1).1, src_tgt])]
  · rw [tallyAt_ne_cell fun h' => hk (recv_eq h').2.symm]; rfl

/-- Device `d` owes a unit to each of its neighbours' barriers. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, Orem_all, Finset.sum_apply, Finsupp.finset_sum_apply,
    Finset.sum_eq_zero fun k _ => by rw [tallyAt_ne_cell fun h => bar_ne_d _ _ _ h.symm]; rfl, Nat.zero_add, tallyAt_apply, tallyAt_apply]
  congr 1
  · by_cases h : d = prv c
    · rw [if_pos h, if_pos ⟨by rw [h, nxt_prv], rfl⟩]
    · rw [if_neg h, if_neg fun h' => h (by rw [bar_eq h'.1, prv_nxt])]
  · by_cases h : d = nxt c
    · rw [if_pos h, if_pos ⟨by rw [h, prv_nxt], rfl⟩]
    · rw [if_neg h, if_neg fun h' => h (by rw [bar_eq h'.1, nxt_prv])]

theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c; decide

theorem credit_recv (c : Dev nD) (k : Key) :
    tallyOn (recvCell c k) (launchCredit (Pipeline.owing O₀) 0 (recvCell c k)) = (tallyAt (recvCell c k) () N : CellTallies nD τ sig Unit) := by
  unfold tallyAt
  refine congrArg _ (Finsupp.ext fun u => ?_)
  cases u
  rw [Pipeline.launchCredit_owing, Finsupp.single_eq_same, Finset.sum_congr rfl fun d _ => owed_recv d c k, Finset.sum_ite_eq' Finset.univ (src k.1 c) fun _ => N,
    if_pos (Finset.mem_univ _)]

/-- A receive cell's semaphore, each once. -/
def recvSem : Key ↪ SemLoc sig := ⟨fun k => .dma (dsem (recvIx k)), fun k k' h => by
  have e := congrArg place (SemLoc.dma.inj h)
  rw [place_dsem, place_dsem] at e
  rw [← keyOf_recv k, Option.some.inj e, keyOf_recv]⟩

omit [FloatOps F] in
theorem credits (c : Dev nD) :
    (Pipeline.launchCred O₀ c : sProp 𝕄) ⊢ iprop(cred (tallyAt (barCell c) () 2) ∗ bigSep Finset.univ fun k => cred (tallyAt (recvCell c k) () N)) := by
  unfold Pipeline.launchCred
  rw [bigSep_univ_at _ (SemLoc.reg barS), credit_bar]
  refine sep_mono_right ?_
  refine (BI.bigSep_subset (t := Finset.univ.map recvSem) fun q hq => ?_).trans ?_
  · obtain ⟨k, _, rfl⟩ := Finset.mem_map.mp hq
    exact Finset.mem_erase.mpr ⟨(fun h => nomatch h), Finset.mem_univ _⟩
  · rw [bigSep_map]
    exact Entails.of_eq (bigSep_congr fun k _ => congrArg cred (credit_recv c k))

end Cert.TwoRings
-- ==== Proof.Run.lean ====
module

public import proofs.«01_k».proof.Proof.Deal
public import proofs.«01_k».proof.Proof.Credits
public import Idealize.ShloMosaic.Lib.Pipeline.CollectiveSegs
public import Idealize.ShloMosaic.Lib.Pipeline.Value

/-! # The run

Every execution of the kernel ends, with each array as the staging leaves it and every semaphore at zero. -/

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealtEnd m ρ c)
      ⊢ |={Set.univ}=> iprop(start m ρ c ∗ emp) := by
  iintro ⟨-, HL, HC, -, HG⟩
  ihave HC := (credits (F := F) c) $$ HC
  icases HC with ⟨Hb, HC⟩
  imodintro
  unfold start dealtEnd
  isplitl
  · isplitl [HG]; · iexact HG
    isplitl [HL]; · iexact HL
    isplitl [Hb]; · iexact Hb
    iexact HC
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scratch
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_bar]
  unfold Φ₁ Scratch
  iintro ⟨Hr, Hd, Hb⟩
  isplitl [Hb]; · iexact Hb
  isplitl [Hd]; · iexact Hd
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array after the run. -/
def endsAs (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = endsAs m ρ c w

set_option maxRecDepth 8000 in
/-- On four devices, for any float values, from any memory with zero counters: every fair execution of @main ends, with
    each array as the staging leaves it and every semaphore counter zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := dealtEnd m ρ) (u₀ := u₀)
    (hu₀ := by
      unfold u₀
      iintro H
      ihave H := (ownU_pair _ _) $$ H
      icases H with ⟨HP, HR⟩
      imod (deal m ρ) $$ HR with HD
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held, -/
theorem ends_x (c : Dev nD) : endsAs m ρ c (0 : Fin 3) = m ((c : Thread nD τ).loc main_arg0) :=
  (dats (F := F) m ρ 0 c).arrAt_in (0 : Fin 3) rfl _
theorem ends_w (c : Dev nD) : endsAs m ρ c (1 : Fin 3) = m ((c : Thread nD τ).loc main_arg1) :=
  (dats (F := F) m ρ 0 c).arrAt_in (1 : Fin 3) rfl _

/-- The one block of the result is all of it. -/
theorem all_staged (t : Fin cfg0.N) (i : S256x1024.Idx) : i ∈ ((cfg0.win (2 : Fin 3)).blk t).view.set := by
  show i ∈ ((View.whole main_v1).slice (win0_2.rect t)).set
  rw [View.set_slice_whole, Rect.mem_set_unit]
  obtain rfl := fin_N0 t
  intro a
  have h0 : win0_2.kind.off (win0_2.index t0_0 a) (win0_2.size a) = 0 := by revert a; decide +kernel
  have h1 : win0_2.xsize (grid0.coords t0_0) a = S256x1024.size a := by revert a; decide +kernel
  rw [h0, h1, Nat.zero_add]
  exact ⟨Nat.zero_le _, (i a).isLt⟩

/-- and the result array the staged result. -/
theorem ends_out (c : Dev nD) : endsAs m ρ c (2 : Fin 3) = outAt m ρ c :=
  (dats m ρ 0 c).arrAt_eq_of_cover (2 : Fin 3) (outAt m ρ c) (fun t _ => by
    obtain rfl := fin_N0 t
    have h : (dats m ρ 0 c).after (2 : Fin 3) t0_0 = outAt m ρ c := rfl
    unfold Pipeline.Dat.flushed
    rw [h]
    generalize outAt m ρ c = X
    funext j
    refine congrArg X (funext fun a => Fin.ext ?_)
    exact (Pipeline.Window.rect_emb_val_of_index_zero (win0_2) t0_0 a (by revert a; decide +kernel) j).symm) fun i => ⟨t0_0, rfl, all_staged t0_0 i⟩

end Cert.TwoRings
-- ==== Proof.Blocks.lean ====
module

public import proofs.«01_k».proof.Proof.Gen.KernelIdeal.Skeleton
public import Idealize.ShloMosaic.Lib.MatmulPlain
public import Idealize.ShloMosaic.Lib.ValueIdx
public import Idealize.ShloMosaic.Lib.ValueLayout
public import Idealize.ShloMosaic.Lib.Pipeline.Value

/-! # `Blocks`: what each stored value is, entry by entry

Over the extended reals a change of float format does nothing, so each of the body's stored values is, at an entry, either a
row of its left operand against a column of its right one or a plain sum of two entries. -/

@[expose] public section

noncomputable section

namespace Cert.TwoRings

open scoped BigOperators
open Cert.KernelIdeal Cert.KernelIdeal.Gen
open Idealize.ShloMosaic Idealize.ShloMosaic.TcCoe Idealize.ShloMosaic.ValueIdx

/-- A row against a column of two blocks that share an axis of 256. -/
def rowCol {M N : ℕ} (x : (⟨2, ![M, 256]⟩ : Shape).Idx → EReal) (w : (⟨2, ![256, N]⟩ : Shape).Idx → EReal) (i : Fin M) (q : Fin N) : EReal :=
  ∑ k : Fin 256, x (ix2 i k) * w (ix2 k q)

/-- A product accumulated into zeros. -/
theorem product_at {N : ℕ} (x : FVec Ideal ⟨2, ![256, 256]⟩ .bf16) (w : FVec Ideal ⟨2, ![256, N]⟩ .bf16) (i : Fin 256) (q : Fin N) :
    matmul (DotDims.plain 256 256 N) none x w (constant (F := Ideal) ⟨2, ![256, N]⟩ .f32 0x00000000#32) (ix2 i q) = rowCol x w i q := by
  refine (Ideal.matmul_plain_apply none x w _ i q).trans ?_
  show Ideal.ofBits .f32 0#32 + _ = _
  rw [Ideal.ofBits_zero_f32, zero_add]
  rfl

section
variable (x : Vec Ideal S256x256 .bf16) (w : Vec Ideal S256x512 .bf16) (v : Vec Ideal S256x1024 .bf16) (i : Fin 256) (q : Fin 512) (r : Fin 1024)

/-- The right stream's first slot, -/
theorem pay1_at : k0_pay1 x w (ix3 (0 : Fin 1) i q) = rowCol x w i q := by
  unfold k0_pay1
  refine (shapeCast_ab_1ab_apply _ _ _ _ _).trans ?_
  rw [shapeCast_self, shapeCast_self]
  exact product_at x w i q
/-- the left stream's, -/
theorem pay3_at : k0_pay3 (k0_pay2 x w) (ix3 (0 : Fin 1) i q) = rowCol x w i q := by
  unfold k0_pay3 k0_pay2
  refine (shapeCast_ab_1ab_apply _ _ _ _ _).trans ?_
  rw [shapeCast_self, shapeCast_self]
  exact product_at x w i q
/-- the opposite device's rows, -/
theorem pay4_at : k0_pay4 x v (ix2 i r) = rowCol x v i r := by
  unfold k0_pay4
  rw [shapeCast_self, shapeCast_self, shapeCast_self]
  exact product_at x v i r
/-- the next device's, -/
theorem pay6_at : k0_pay6 (k0_pay5 x) w (ix2 i q) = rowCol x w i q := by
  unfold k0_pay6 k0_pay5
  rw [shapeCast_self, shapeCast_self, shapeCast_self]
  exact product_at x w i q
/-- those of the device before, -/
theorem pay7_at : k0_pay7 x w (ix2 i q) = rowCol x w i q := by
  unfold k0_pay7
  rw [shapeCast_self, shapeCast_self, shapeCast_self]
  exact product_at x w i q
/-- and its own. -/
theorem pay8_at : k0_pay8 x v (ix2 i r) = rowCol x v i r := by
  unfold k0_pay8
  rw [shapeCast_self, shapeCast_self, shapeCast_self]
  exact product_at x v i r
end

/-- Between two hops: what arrived plus what is added, -/
theorem pay9_at (u : Vec Ideal S64x512 .bf16) (z : Vec Ideal S1x64x512 .bf16) (a : Fin 64) (q : Fin 512) :
    k0_pay9 u z (ix3 (0 : Fin 1) a q) = (z (ix3 (0 : Fin 1) a q) : EReal) + u (ix2 a q) := by
  unfold k0_pay9
  refine (shapeCast_ab_1ab_apply _ _ _ _ _).trans ?_
  show (shapeCast S64x512 z shapeCasts_S1x64x512_S64x512 (ix2 a q) : EReal) + u (ix2 a q) = _
  exact congrArg (· + (u (ix2 a q) : EReal)) (shapeCast_1ab_ab_apply z _ a q)

/-- and after the last. -/
theorem pay25_at (z : Vec Ideal S1x64x512 .bf16) (u : Vec Ideal S64x512 .f32) (a : Fin 64) (q : Fin 512) :
    k0_pay25 z u (ix2 a q) = (z (ix3 (0 : Fin 1) a q) : EReal) + u (ix2 a q) := by
  unfold k0_pay25
  show (shapeCast S64x512 z shapeCasts_S1x64x512_S64x512 (ix2 a q) : EReal) + u (ix2 a q) = _
  exact congrArg (· + (u (ix2 a q) : EReal)) (shapeCast_1ab_ab_apply z _ a q)

end Cert.TwoRings
-- ==== Proof.Held.lean ====
module

public import proofs.«01_k».proof.Proof.Ring
public import proofs.«01_k».proof.Proof.Blocks
public import Idealize.ShloMosaic.Lib.Layout
public import Idealize.ShloMosaic.Lib.Pipeline.Value

/-! # `Held`: what each device holds, in terms of the whole operands

Device `c` holds columns `256 c … 256 c + 255` of the left operand and the same rows of the right one. So what it computes
for the rows of device `r` is the part of the product whose summed index runs over `c`'s range: `part A B c r`. -/

@[expose] public section

noncomputable section

namespace Cert.TwoRings

open scoped BigOperators
open Cert.KernelIdeal Cert.KernelIdeal.Gen
open Idealize.ShloMosaic Idealize.ShloMosaic.TcCoe Idealize.ShloMosaic.ValueIdx
open Idealize.ShloMosaic.Rounds

/-- A whole operand. -/
abbrev Whole : Type := (⟨2, ![1024, 1024]⟩ : Shape).Idx → EReal

/-- Entry `i` of device `r`'s range. -/
def at4 (r : Dev nD) (i : Fin 256) : Fin 1024 := ⟨r.val * 256 + i.val, by have h1 : r.val < 4 := r.isLt; have h2 := i.isLt; omega⟩
/-- Column `q` of stream `d`'s half. -/
def half (d : Bool) (q : Fin 512) : Fin 1024 := ⟨(if d then 0 else 512) + q.val, by have h2 := q.isLt; split <;> omega⟩
/-- Row `a` of segment `s`. -/
def row (s : Fin 4) (a : Fin 64) : Fin 256 := ⟨64 * s.val + a.val, by have h1 := s.isLt; have h2 := a.isLt; omega⟩

/-- The part of entry `(i, q)` of device `r`'s rows of the product whose summed index runs over `e`'s range. -/
def part (A B : Whole) (e r : Dev nD) (i : Fin 256) (q : Fin 1024) : EReal :=
  ∑ k : Fin 256, A (ix2 (at4 r i) (at4 e k)) * B (ix2 (at4 e k) q)

variable (m : (ℓ : Loc nD τ sig) → Buf (Elt Ideal) ℓ) (ρ : Dev nD → PrngReg) (A B : Whole)

/-- Each device's arguments are its parts of `A` and `B`. -/
def Holds : Prop := ∀ c : Dev nD,
  m ((c.tc : Thread nD τ).loc main_arg0) = Layout.block ⟨2, ![1024, 256]⟩ ⟨2, ![1024, 1024]⟩ 1 4 c A
  ∧ m ((c.tc : Thread nD τ).loc main_arg1) = Layout.block ⟨2, ![256, 1024]⟩ ⟨2, ![1024, 1024]⟩ 0 4 c B

variable {m A B} (H : Holds m A B) (c : Dev nD)
include H

theorem xstg_at (g : Fin 1024) (k : Fin 256) : xstg m ρ c (ix2 g k) = A (ix2 g (at4 c k)) := by
  have h : xstg m ρ c (ix2 g k) = m ((c.tc : Thread nD τ).loc main_arg0) (ix2 g k) := by
    show m ((c.tc : Thread nD τ).loc main_arg0) _ = _
    refine congrArg (m ((c.tc : Thread nD τ).loc main_arg0)) (funext fun a => Fin.ext ?_)
    exact Pipeline.Window.rect_emb_val_of_index_zero win0_0 (0 : Fin 1) a (by revert a; decide +kernel) (ix2 g k)
  rw [h, (H c).1]
  show A _ = A _
  refine congrArg A (funext fun a => Fin.ext ?_)
  fin_cases a <;> rfl

theorem wstg_at (k : Fin 256) (q : Fin 1024) : wstg m ρ c (ix2 k q) = B (ix2 (at4 c k) q) := by
  have h : wstg m ρ c (ix2 k q) = m ((c.tc : Thread nD τ).loc main_arg1) (ix2 k q) := by
    show m ((c.tc : Thread nD τ).loc main_arg1) _ = _
    refine congrArg (m ((c.tc : Thread nD τ).loc main_arg1)) (funext fun a => Fin.ext ?_)
    exact Pipeline.Window.rect_emb_val_of_index_zero win0_1 (0 : Fin 1) a (by revert a; decide +kernel) (ix2 k q)
  rw [h, (H c).2]
  show B _ = B _
  refine congrArg B (funext fun a => Fin.ext ?_)
  fin_cases a <;> rfl

/-- The body's read of device `r`'s rows of the left operand, -/
theorem x_read (r : Dev nD) (off : Fin 2 → ℕ) (inb : ∀ a, off a + S256x256.size a ≤ S1024x256.size a) (ho : off = ![256 * r.val, 0]) (i k : Fin 256) :
    (xM.access (Rect.unit (s := S1024x256) off S256x256.size inb)).read (Elt Ideal) (xstg m ρ c) (ix2 i k) = A (ix2 (at4 r i) (at4 c k)) := by
  subst ho
  rw [← xstg_at ρ H c]
  show xstg m ρ c _ = xstg m ρ c _
  refine congrArg (xstg m ρ c) (funext fun a => Fin.ext ?_)
  fin_cases a
  · show 256 * r.val + 1 * i.val = r.val * 256 + i.val; omega
  · show 0 + 1 * k.val = k.val; omega

/-- and of a stream's half of the columns, -/
theorem w_read (d : Bool) (off : Fin 2 → ℕ) (inb : ∀ a, off a + S256x512.size a ≤ S256x1024.size a) (ho : off = ![0, if d then 0 else 512]) (k : Fin 256) (q : Fin 512) :
    (wM.access (Rect.unit (s := S256x1024) off S256x512.size inb)).read (Elt Ideal) (wstg m ρ c) (ix2 k q) = B (ix2 (at4 c k) (half d q)) := by
  subst ho
  rw [← wstg_at ρ H c]
  show wstg m ρ c _ = wstg m ρ c _
  refine congrArg (wstg m ρ c) (funext fun a => Fin.ext ?_)
  fin_cases a
  · show 0 + 1 * k.val = k.val; omega
  · show (if d then 0 else 512) + 1 * q.val = (if d then 0 else 512) + q.val; omega

theorem w_lo (k : Fin 256) (q : Fin 512) : (wM.access wLo).read (Elt Ideal) (wstg m ρ c) (ix2 k q) = B (ix2 (at4 c k) (half true q)) :=
  w_read ρ H c true ![0, 0] inb_S256x1024_S256x512_0_0 rfl k q
theorem w_hi (k : Fin 256) (q : Fin 512) : (wM.access wHi).read (Elt Ideal) (wstg m ρ c) (ix2 k q) = B (ix2 (at4 c k) (half false q)) :=
  w_read ρ H c false ![0, 512] inb_S256x1024_S256x512_0_512 rfl k q

/-- or all of them. -/
theorem w_all (k : Fin 256) (q : Fin 1024) : (wM.access wAll).read (Elt Ideal) (wstg m ρ c) (ix2 k q) = B (ix2 (at4 c k) q) := by
  rw [← wstg_at ρ H c]
  show wstg m ρ c _ = wstg m ρ c _
  refine congrArg (wstg m ρ c) (funext fun a => Fin.ext ?_)
  fin_cases a
  · show 0 + 1 * k.val = k.val; omega
  · show 0 + 1 * q.val = q.val; omega

omit H in
theorem off_prv : k0_off1 c = ![256 * (prv c).val, 0] := k0_off1_eq c
omit H in
theorem off_nxt : k0_off2 c 1#32 = ![256 * (nxt c).val, 0] := k0_off2_eq c 0
omit H in
theorem off_opp : k0_off2 c 2#32 = ![256 * (nxt (nxt c)).val, 0] :=
  (k0_off2_eq c 1).trans (by revert c; decide)

/-- The opposite device's rows, -/
theorem pm_at (i : Fin 256) (q : Fin 1024) : pm m ρ c (ix2 i q) = part A B c (nxt (nxt c)) i q := by
  unfold pm
  refine (pay4_at _ _ i q).trans (Finset.sum_congr rfl fun k _ => ?_)
  rw [x_read ρ H c _ _ _ (off_opp c) i k, w_all ρ H c k q]
/-- the next device's, -/
theorem pr_at (i : Fin 256) (q : Fin 512) : pr m ρ c (ix2 i q) = part A B c (nxt c) i (half true q) := by
  unfold pr
  refine (pay6_at _ _ i q).trans (Finset.sum_congr rfl fun k _ => ?_)
  rw [x_read ρ H c _ _ _ (off_nxt c) i k, w_lo ρ H c k q]
/-- those of the device before, -/
theorem pl_at (i : Fin 256) (q : Fin 512) : pl m ρ c (ix2 i q) = part A B c (prv c) i (half false q) := by
  unfold pl
  refine (pay7_at _ _ i q).trans (Finset.sum_congr rfl fun k _ => ?_)
  rw [x_read ρ H c _ _ _ (off_prv c) i k, w_hi ρ H c k q]
/-- and its own. -/
theorem pf_at (i : Fin 256) (q : Fin 1024) : pf m ρ c (ix2 i q) = part A B c c i q := by
  unfold pf
  refine (pay8_at _ _ i q).trans (Finset.sum_congr rfl fun k _ => ?_)
  rw [x_read ρ H c _ _ _ (k0_off3_eq c) i k, w_all ρ H c k q]
/-- What a stream starts with: the rows of the device it comes from. -/
theorem p0_at (d : Bool) (i : Fin 256) (q : Fin 512) : p0 m ρ d c (ix3 (0 : Fin 1) i q) = part A B c (src d c) i (half d q) := by
  unfold p0
  cases d
  · refine (pay3_at _ _ i q).trans (Finset.sum_congr rfl fun k _ => ?_)
    rw [x_read ρ H c _ _ _ (off_nxt c) i k, w_hi ρ H c k q]
    rfl
  · refine (pay1_at _ _ i q).trans (Finset.sum_congr rfl fun k _ => ?_)
    rw [x_read ρ H c _ _ _ (off_prv c) i k, w_lo ρ H c k q]
    rfl

end Cert.TwoRings
-- ==== Proof.Sums.lean ====
module

public import proofs.«01_k».proof.Proof.Pieces
public import proofs.«01_k».proof.Proof.Held

/-! # `Sums`: what the streams bring and what a device ends with

Round the ring a stream gathers, for one device's rows, the three other devices' parts of the product; the device adds its own.
So its result is the sum of the four parts, in an order that depends on the device and on the half of the columns; over the
extended reals the order does not matter. -/

@[expose] public section

noncomputable section

namespace Cert.TwoRings

open scoped BigOperators
open Cert.KernelIdeal Cert.KernelIdeal.Gen
open Idealize.ShloMosaic Idealize.ShloMosaic.TcCoe Idealize.ShloMosaic.ValueIdx
open Idealize.ShloMosaic.Rounds

/-- The product of the whole operands. -/
def product (A B : Whole) : Whole := fun j => ∑ k : Fin 1024, A (ix2 (j 0) k) * B (ix2 k (j 1))

/-- The summed index cut into the four devices' ranges. -/
theorem product_parts (A B : Whole) (c : Dev nD) (i : Fin 256) (q : Fin 1024) :
    product A B (ix2 (at4 c i) q) = ∑ e : Dev nD, part A B e c i q := by
  show ∑ k : Fin (4 * 256), A (ix2 (at4 c i) k) * B (ix2 k q) = _
  rw [← Equiv.sum_comp finProdFinEquiv, Fintype.sum_prod_type]
  refine Finset.sum_congr rfl fun e _ => Finset.sum_congr rfl fun k _ => ?_
  have h : finProdFinEquiv (e, k) = at4 e k := Fin.ext (show k.val + 256 * e.val = e.val * 256 + k.val by omega)
  rw [h]

/-- Four devices, counted backwards along a stream from any of them. -/
theorem round_sum (d : Bool) (c : Dev nD) (f : Dev nD → EReal) :
    ∑ e : Dev nD, f e = f (src d (src d (src d c))) + f (src d (src d c)) + f (src d c) + f c := by
  have h : ∀ g : Fin 4 → EReal, ∑ e : Fin 4, g e = g 0 + g 1 + g 2 + g 3 := Fin.sum_univ_four
  refine (h f).trans ?_
  cases d <;> fin_cases c
  · show f 0 + f 1 + f 2 + f 3 = f 3 + f 2 + f 1 + f 0; ac_rfl
  · show f 0 + f 1 + f 2 + f 3 = f 0 + f 3 + f 2 + f 1; ac_rfl
  · show f 0 + f 1 + f 2 + f 3 = f 1 + f 0 + f 3 + f 2; ac_rfl
  · show f 0 + f 1 + f 2 + f 3 = f 2 + f 1 + f 0 + f 3; ac_rfl
  · show f 0 + f 1 + f 2 + f 3 = f 1 + f 2 + f 3 + f 0; ac_rfl
  · show f 0 + f 1 + f 2 + f 3 = f 2 + f 3 + f 0 + f 1; ac_rfl
  · show f 0 + f 1 + f 2 + f 3 = f 3 + f 0 + f 1 + f 2; ac_rfl
  · show f 0 + f 1 + f 2 + f 3 = f 0 + f 1 + f 2 + f 3; rfl

theorem src_four (d : Bool) (c : Dev nD) : src d (src d (src d (src d c))) = c := by revert d c; decide
theorem opp_src (d : Bool) (c : Dev nD) : nxt (nxt (src d (src d c))) = c := by revert d c; decide
theorem tgt_of_src (d : Bool) (c : Dev nD) : tgt d (src d c) = c := by revert d c; decide

variable {m : (ℓ : Loc nD τ sig) → Buf (Elt Ideal) ℓ} (ρ : Dev nD → PrngReg) {A B : Whole} (H : Holds m A B) (c : Dev nD)

theorem seg0_at (p : FVec Ideal S1x256x512 .bf16) (s : Fin 4) (a : Fin 64) (q : Fin 512) :
    seg0 p s (ix3 (0 : Fin 1) a q) = p (ix3 (0 : Fin 1) (row s a) q) := by
  unfold seg0
  refine congrArg p (funext fun b => Fin.ext ?_)
  fin_cases b
  · rfl
  · show 64 * s.val + 1 * a.val = 64 * s.val + a.val; omega
  · show 0 + 1 * q.val = q.val; omega

/-- A segment of an array over all columns, -/
theorem half_emb (d : Bool) (s : Fin 4) (a : Fin 64) (q : Fin 512) : (halfR d s).emb (ix2 a q) = ix2 (row s a) (half d q) := by
  funext b
  refine Fin.ext ?_
  fin_cases b
  · show 64 * s.val + 1 * a.val = 64 * s.val + a.val; omega
  · show (if d then 0 else 512) + 1 * q.val = (if d then 0 else 512) + q.val; omega
/-- and of one over half of them. -/
theorem seg_emb (s : Fin 4) (a : Fin 64) (q : Fin 512) : (segR s).emb (ix2 a q) = ix2 (row s a) q := by
  funext b
  refine Fin.ext ?_
  fin_cases b
  · show 64 * s.val + 1 * a.val = 64 * s.val + a.val; omega
  · show 0 + 1 * q.val = q.val; omega

include H

/-- What a device adds before hop 1: its part for the opposite device's rows; -/
theorem addP0_at (d : Bool) (s : Fin 4) (a : Fin 64) (q : Fin 512) :
    addP m ρ d 0 c s (ix2 a q) = part A B c (nxt (nxt c)) (row s a) (half d q) := by
  show pm m ρ c ((halfR d s).emb (ix2 a q)) = _
  rw [half_emb, pm_at ρ H c]
/-- before hop 2: for the rows of the device the stream goes to. -/
theorem addP1_at (d : Bool) (s : Fin 4) (a : Fin 64) (q : Fin 512) :
    addP m ρ d 1 c s (ix2 a q) = part A B c (tgt d c) (row s a) (half d q) := by
  cases d
  · show pl m ρ c ((segR s).emb (ix2 a q)) = _
    rw [seg_emb, pl_at ρ H c]; rfl
  · show pr m ρ c ((segR s).emb (ix2 a q)) = _
    rw [seg_emb, pr_at ρ H c]; rfl

/-- What the last hop brings a device: the three others' parts for its rows. -/
theorem brought (d : Bool) (s : Fin 4) (a : Fin 64) (q : Fin 512) :
    val m ρ d 2 (src d c) s (ix3 (0 : Fin 1) a q)
      = part A B (src d (src d (src d c))) c (row s a) (half d q) + part A B (src d (src d c)) c (row s a) (half d q)
        + part A B (src d c) c (row s a) (half d q) := by
  show k0_pay9 (addP m ρ d 1 (src d c) s) (k0_pay9 (addP m ρ d 0 (src d (src d c)) s) (seg0 (p0 m ρ d (src d (src d (src d c)))) s)) (ix3 (0 : Fin 1) a q) = _
  rw [pay9_at, pay9_at, seg0_at, p0_at ρ H, addP0_at ρ H, addP1_at ρ H, src_four, opp_src, tgt_of_src]

/-- With its own: the product. -/
theorem outP_at (d : Bool) (s : Fin 4) (a : Fin 64) (q : Fin 512) :
    outP m ρ d c s (ix2 a q) = product A B (ix2 (at4 c (row s a)) (half d q)) := by
  have own : (fM.access (halfR d s)).read (Elt Ideal) (pf m ρ c) (ix2 a q) = part A B c c (row s a) (half d q) := by
    show pf m ρ c ((halfR d s).emb (ix2 a q)) = _
    rw [half_emb, pf_at ρ H c]
  unfold outP
  rw [pay25_at, brought ρ H c, own, product_parts, round_sum d c]

/-- What a device ends with: its rows of the product. -/
theorem outAt_block : outAt m ρ c = Layout.block ⟨2, ![256, 1024]⟩ ⟨2, ![1024, 1024]⟩ 0 4 c (product A B) := by
  funext i
  obtain ⟨d, s, j, rfl⟩ := halfR_cover i
  obtain ⟨a, q, rfl⟩ : ∃ (a : Fin 64) (q : Fin 512), j = ix2 a q := ⟨j 0, j 1, eq_ix2 j⟩
  rw [outAt_emb, outP_at ρ H c, half_emb]
  show product A B _ = product A B _
  refine congrArg (product A B) (funext fun b => Fin.ext ?_)
  fin_cases b <;> rfl

end Cert.TwoRings
-- ==== Proof.Whole.lean ====
module

public import proofs.«01_k».proof.Proof.Sums
public import proofs.«01_k».proof.Proof.Gen.ReferenceIdeal.Run
public import Idealize.ShloMosaic.Lib.StackMember

/-! # `Whole`: what the reference computes

The reference multiplies the whole operands once and rounds the product twice; over the extended reals the roundings do nothing. -/

@[expose] public section

noncomputable section

namespace Cert.TwoRings

open scoped BigOperators
open Cert.KernelIdeal Cert.KernelIdeal.Gen
open Idealize.ShloMosaic Idealize.ShloMosaic.TcCoe Idealize.ShloMosaic.ValueIdx

/-- Its value, as its run states it, is the product. -/
theorem reference_value (A B : Whole) :
    truncf (F := Ideal) .bf16 (extf .f32 (truncf .bf16 (Host.dotGeneral (F := Ideal) (φ₁ := .bf16) (φ₂ := .bf16)
      Cert.ReferenceIdeal.dot_S1024x1024_S1024x1024_S1024x1024_1_0_0_1_n_n none A B)
      Cert.ReferenceIdeal.Facts₀.bitsLt_bf16_f32) Cert.ReferenceIdeal.Facts₀.bitsLt_bf16_f32) Cert.ReferenceIdeal.Facts₀.bitsLt_bf16_f32 = product A B := by
  funext j
  obtain ⟨a, b, rfl⟩ : ∃ (a b : Fin 1024), j = ix2 a b := ⟨j 0, j 1, eq_ix2 j⟩
  exact StackMember.dotGeneral_plain_apply (φ₁ := .bf16) (φ₂ := .bf16) none A B a b

end Cert.TwoRings
-- ==== Proof.lean ====
/-
# The claims

The kernel multiplies, on each of four devices, its columns of the left operand by its rows of the right one, and sums the
four partial products round the ring, half of the columns in each direction, so that each device ends with its own rows of
the whole product. `Run.lean` has the run (for any floats), `Sums.lean` what it leaves over the extended reals, `Whole.lean`
the reference's value; here they meet the certificate's claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Sums
public import proofs.«01_k».proof.Proof.Whole

@[expose] public section

noncomputable section

namespace Cert.Proof

open Idealize.ShloMosaic Idealize.ShloMosaic.TcCoe Idealize.SL.Sem Cert.TwoRings

/-- The idealized kernel at any float values: its arguments end as they began, every counter at zero. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (ends_x m ρ c), (h.1 c (1 : Fin 3)).trans (ends_w m ρ c)⟩, h.2⟩) (run_main m ρ)

theorem frame_ideal : Cert.quiescent_KernelIdeal := fun m ρ _ => run_args m ρ

/-- The kernel as printed is the same program: one body under one label, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
theorem tables_eq {F : FTy → Type} [FloatOps F] : Cert.Kernel.defs (F := F) = Cert.KernelIdeal.defs (F := F) :=
  congrArg (Pipeline.defs Cert.KernelIdeal.pcfgs) bodies_eq
/-- read at the bit-exact values. -/
theorem frame_kernel : Cert.quiescent_Kernel := fun m ρ _ => by
  rw [tables_eq]
  exact run_args (F := Bits) m ρ

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Each device ends with its rows of the product of the whole operands, which is what the reference computes. -/
theorem values : Cert.algebraic_KernelIdeal_ReferenceIdeal := fun m ρ m' ρ' _ H =>
  ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c (2 : Fin 3)).trans ((ends_out m ρ c).trans (outAt_block ρ H c)),
        (h.1 c (0 : Fin 3)).trans (ends_x m ρ c), (h.1 c (1 : Fin 3)).trans (ends_w m ρ c)⟩) (run_main m ρ),
    (θ_run Cert.ReferenceIdeal.defs _ _).mono (fun _ h => ⟨(h 0).1.trans (reference_value _ _), (h 0).2⟩)
      (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
